-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 [hPre_schedule : Cert.Pre_schedule.Facts] (m : (ℓ : Loc Cert.Kernel2.nD Cert.Kernel2.τ Cert.Kernel2.sig) → Buf (Elt Bits) ℓ) : Prop :=
  ∀ c : Dev Cert.Kernel2.nD,
    (Cert.Pre_schedule.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7)) (m ((c.tc : Thread Cert.Kernel2.nD Cert.Kernel2.τ).loc Cert.Kernel2.main_arg8)) (m ((c.tc : Thread Cert.Kernel2.nD Cert.Kernel2.τ).loc Cert.Kernel2.main_arg9))) = (fun _ => 1#1)

def Pre_Kernel2Ideal [hPre_schedule : Cert.Pre_schedule.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_schedule.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_schedule [hPre_schedule : Cert.Pre_schedule.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_schedule.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] [hPre_schedule : Cert.Pre_schedule.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] [hPre_schedule : Cert.Pre_schedule.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Reference2Ideal_pre_schedule [hReference2Ideal : Cert.Reference2Ideal.Facts] [hPre_schedule : Cert.Pre_schedule.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_schedule m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def preserves_Kernel_KernelIdeal : Prop :=
  IdealRules.named_const.Statement Cert.KernelIdeal.κ "scale" .f32 0x3DD105EC#32 (((Real.sqrt 96)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] [hPre_schedule : Cert.Pre_schedule.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v72) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts) (hPre_schedule : Cert.Pre_schedule.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_schedule := hPre_schedule)
    ∧ quiescent_Kernel2Ideal (hKernel2Ideal := hKernel2Ideal) (hPre_schedule := hPre_schedule)
    ∧ quiescent_Reference2Ideal (hReference2Ideal := hReference2Ideal)
    ∧ quiescent_Reference2Ideal_pre_schedule (hReference2Ideal := hReference2Ideal) (hPre_schedule := hPre_schedule)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal) (hPre_schedule := hPre_schedule)
-- ==== Pre_finite.lean ====
abbrev S12288x1024 : Shape := ⟨2, ![12288, 1024]⟩
abbrev S1024x1024 : Shape := ⟨2, ![1024, 1024]⟩
abbrev S4096x1024 : Shape := ⟨2, ![4096, 1024]⟩
abbrev S_ : Shape := ⟨0, ![]⟩

class Facts : Prop where
  bitsLt_bf16_f32 : FTy.bits .bf16 < FTy.bits .f32
  slices_S12288x1024_S4096x1024_8192_0 : S12288x1024.Slices ![8192, 0] S4096x1024
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v17 : IVec S_ 1) : IVec S_ 1 :=
  let main_v18 : IVec S_ 1 := andi main_v13 main_v17
  main_v18

def fn {F : FTy → Type} [FloatOps F] (main_arg0 : FVec F S12288x1024 .bf16) (main_arg1 : FVec F S12288x1024 .bf16) (main_arg2 : FVec F S12288x1024 .bf16) (main_arg3 : FVec F S1024x1024 .bf16) (main_arg4 : FVec F S1024x1024 .bf16) : IVec S_ 1 :=
  let main_v0 : FVec F S12288x1024 .f32 := (extf .f32 · bitsLt_bf16_f32) main_arg0
  let main_v1 : FVec F S12288x1024 .f32 := (extf .f32 · bitsLt_bf16_f32) main_arg1
  let main_v2 : FVec F S1024x1024 .f32 := (extf .f32 · bitsLt_bf16_f32) main_arg3
  let main_v3 : FVec F S4096x1024 .f32 := (extractStridedSlice S4096x1024 ![8192, 0] · slices_S12288x1024_S4096x1024_8192_0) main_v0
  let main_v4 : FVec F S4096x1024 .f32 := Host.absf main_v3
  let main_cst : FVec F S_ .f32 := constant S_ .f32 0x7F800000#32
  let main_v5 : FVec F S4096x1024 .f32 := broadcastInDim S4096x1024 ![] bcast_S_S4096x1024 main_cst
  let main_v6 : IVec S4096x1024 1 := cmpf .olt main_v4 main_v5
  let main_c : IVec S_ 1 := constantI S_ 1 1#1
  let main_v7 : IVec S_ 1 := (fun x v => Host.reduce IntOp.andi x v reducesTo_S4096x1024_S_d0_1 h_S_) main_v6 main_c
  let main_v8 : FVec F S4096x1024 .f32 := (extractStridedSlice S4096x1024 ![8192, 0] · slices_S12288x1024_S4096x1024_8192_0) main_v1
  let main_v9 : FVec F S4096x1024 .f32 := Host.absf main_v8
  let main_cst_0 : FVec F S_ .f32 := constant S_ .f32 0x7F800000#32
  let main_v10 : FVec F S4096x1024 .f32 := broadcastInDim S4096x1024 ![] bcast_S_S4096x1024 main_cst_0
  let main_v11 : IVec S4096x1024 1 := cmpf .olt main_v9 main_v10
  let main_c_1 : IVec S_ 1 := constantI S_ 1 1#1
  let main_v12 : IVec S_ 1 := (fun x v => Host.reduce IntOp.andi x v reducesTo_S4096x1024_S_d0_1 h_S_) main_v11 main_c_1
  let main_v13 : IVec S_ 1 := andi main_v7 main_v12
  let main_v14 : FVec F S1024x1024 .f32 := Host.absf main_v2
  let main_cst_2 : FVec F S_ .f32 := constant S_ .f32 0x7F800000#32
  let main_v15 : FVec F S1024x1024 .f32 := broadcastInDim S1024x1024 ![] bcast_S_S1024x1024 main_cst_2
  let main_v16 : IVec S1024x1024 1 := cmpf .olt main_v14 main_v15
  let main_c_3 : IVec S_ 1 := constantI S_ 1 1#1
  let main_v17 : IVec S_ 1 := (fun x v => Host.reduce IntOp.andi x v reducesTo_S1024x1024_S_d0_1 h_S_) main_v16 main_c_3
  fn_part1 (F := F) main_v13 main_v17
-- ==== Pre_schedule.lean ====
abbrev S128 : Shape := ⟨1, ![128]⟩
abbrev S1 : Shape := ⟨1, ![1]⟩
abbrev S65536x8x128 : Shape := ⟨3, ![65536, 8, 128]⟩
abbrev S4x32x1024x2048 : Shape := ⟨4, ![4, 32, 1024, 2048]⟩
abbrev S4x32x2048 : Shape := ⟨3, ![4, 32, 2048]⟩
abbrev S4x32x1024x1024 : Shape := ⟨4, ![4, 32, 1024, 1024]⟩
abbrev S4x32x1024 : Shape := ⟨3, ![4, 32, 1024]⟩
abbrev S127 : Shape := ⟨1, ![127]⟩
abbrev S_ : Shape := ⟨0, ![]⟩

class Facts : Prop where
  slices_S128_S127_1 : S128.Slices ![1] S127
  slices_S128_S127_0 : S128.Slices ![0] S127
  bcast_S_S127 : S_.BroadcastsInDim S127 (![] : Fin 0 → Fin S127.rank)
  bcast_S_S128 : S_.BroadcastsInDim S128 (![] : Fin 0 → Fin S128.rank)
  reducesTo_S128_S_d0 : S128.ReducesTo [0] S_
  h_S_ : 0 < S_.numel
  bcast_S_S1 : S_.BroadcastsInDim S1 (![] : Fin 0 → Fin S1.rank)
  reducesTo_S1_S_d0 : S1.ReducesTo [0] S_
  bcast_S1_S128_0 : S1.BroadcastsInDim S128 (![0] : Fin 1 → Fin S128.rank)
  reducesTo_S127_S_d0 : S127.ReducesTo [0] S_

variable [Facts]

def fn_where {F : FTy → Type} [FloatOps F] (arg0 : IVec S127 1) (arg1 : IVec S127 1) (arg2 : IVec S127 1) : IVec S127 1 :=
  let v0 : IVec S127 1 := select arg0 arg1 arg2
  v0

def fn_part4 {F : FTy → Type} [FloatOps F] (main_arg4 : IVec S128 32) (main_v0 : IVec S128 32) (main_v3 : IVec S127 1) (main_v10 : IVec S127 1) (main_v23 : IVec S127 1) (main_v71 : IVec S_ 1) (main_v72 : IVec S128 32) : IVec S_ 1 :=
  let main_v73 : IVec S128 1 := cmpi .slt main_v0 main_v72
  let main_c_22 : IVec S_ 32 := constantI S_ 32 0#32
  let main_v74 : IVec S128 32 := broadcastInDim S128 ![] bcast_S_S128 main_c_22
  let main_v75 : IVec S128 1 := cmpi .slt main_arg4 main_v74
  let main_v76 : IVec S128 1 := ori main_v73 main_v75
  let main_c_23 : IVec S_ 1 := constantI S_ 1 1#1
  let main_v77 : IVec S_ 1 := (fun x v => Host.reduce IntOp.andi x v reducesTo_S128_S_d0 h_S_) main_v76 main_c_23
  let main_v78 : IVec S_ 1 := andi main_v71 main_v77
  let main_v79 : IVec S127 1 := fn_where (F := F) main_v3 main_v10 main_v23
  let main_c_24 : IVec S_ 1 := constantI S_ 1 1#1
  let main_v80 : IVec S_ 1 := (fun x v => Host.reduce IntOp.andi x v reducesTo_S127_S_d0 h_S_) main_v79 main_c_24
  let main_v81 : IVec S_ 1 := andi main_v78 main_v80
  main_v81

def fn_part3 {F : FTy → Type} [FloatOps F] (main_arg1 : IVec S128 32) (main_arg2 : IVec S1 32) (main_arg4 : IVec S128 32) (main_v0 : IVec S128 32) (main_v3 : IVec S127 1) (main_v10 : IVec S127 1) (main_v23 : IVec S127 1) (main_v50 : IVec S_ 1) (main_v55 : IVec S1 1) : IVec S_ 1 :=
  let main_c_15 : IVec S_ 1 := constantI S_ 1 1#1
  let main_v56 : IVec S_ 1 := (fun x v => Host.reduce IntOp.andi x v reducesTo_S1_S_d0 h_S_) main_v55 main_c_15
  let main_v57 : IVec S_ 1 := andi main_v50 main_v56
  let main_c_16 : IVec S_ 32 := constantI S_ 32 0#32
  let main_v58 : IVec S128 32 := broadcastInDim S128 ![] bcast_S_S128 main_c_16
  let main_v59 : IVec S128 1 := cmpi .sle main_arg1 main_v58
  let main_v60 : IVec S128 32 := broadcastInDim S128 ![0] bcast_S1_S128_0 main_arg2
  let main_v61 : IVec S128 1 := cmpi .sle main_v0 main_v60
  let main_v62 : IVec S128 1 := ori main_v59 main_v61
  let main_c_17 : IVec S_ 1 := constantI S_ 1 1#1
  let main_v63 : IVec S_ 1 := (fun x v => Host.reduce IntOp.andi x v reducesTo_S128_S_d0 h_S_) main_v62 main_c_17
  let main_v64 : IVec S_ 1 := andi main_v57 main_v63
  let main_c_18 : IVec S_ 32 := constantI S_ 32 0#32
  let main_v65 : IVec S128 32 := broadcastInDim S128 ![] bcast_S_S128 main_c_18
  let main_v66 : IVec S128 1 := cmpi .sgt main_v0 main_v65
  let main_c_19 : IVec S_ 32 := constantI S_ 32 0#32
  let main_v67 : IVec S128 32 := broadcastInDim S128 ![] bcast_S_S128 main_c_19
  let main_v68 : IVec S128 1 := cmpi .sgt main_arg1 main_v67
  let main_v69 : IVec S128 1 := ori main_v66 main_v68
  let main_c_20 : IVec S_ 1 := constantI S_ 1 1#1
  let main_v70 : IVec S_ 1 := (fun x v => Host.reduce IntOp.andi x v reducesTo_S128_S_d0 h_S_) main_v69 main_c_20
  let main_v71 : IVec S_ 1 := andi main_v64 main_v70
  let main_c_21 : IVec S_ 32 := constantI S_ 32 127#32
  let main_v72 : IVec S128 32 := broadcastInDim S128 ![] bcast_S_S128 main_c_21
  fn_part4 (F := F) main_arg4 main_v0 main_v3 main_v10 main_v23 main_v71 main_v72

def fn_part2 {F : FTy → Type} [FloatOps F] (main_arg1 : IVec S128 32) (main_arg2 : IVec S1 32) (main_arg3 : IVec S128 32) (main_arg4 : IVec S128 32) (main_v0 : IVec S128 32) (main_v3 : IVec S127 1) (main_v10 : IVec S127 1) (main_v23 : IVec S127 1) (main_v36 : IVec S_ 1) (main_v38 : IVec S128 1) : IVec S_ 1 :=
  let main_c_8 : IVec S_ 32 := constantI S_ 32 1#32
  let main_v39 : IVec S128 32 := broadcastInDim S128 ![] bcast_S_S128 main_c_8
  let main_v40 : IVec S128 1 := cmpi .sle main_arg3 main_v39
  let main_v41 : IVec S128 1 := andi main_v38 main_v40
  let main_c_9 : IVec S_ 1 := constantI S_ 1 1#1
  let main_v42 : IVec S_ 1 := (fun x v => Host.reduce IntOp.andi x v reducesTo_S128_S_d0 h_S_) main_v41 main_c_9
  let main_v43 : IVec S_ 1 := andi main_v36 main_v42
  let main_c_10 : IVec S_ 32 := constantI S_ 32 4294967295#32
  let main_v44 : IVec S128 32 := broadcastInDim S128 ![] bcast_S_S128 main_c_10
  let main_v45 : IVec S128 1 := cmpi .sge main_arg4 main_v44
  let main_c_11 : IVec S_ 32 := constantI S_ 32 32#32
  let main_v46 : IVec S128 32 := broadcastInDim S128 ![] bcast_S_S128 main_c_11
  let main_v47 : IVec S128 1 := cmpi .slt main_arg4 main_v46
  let main_v48 : IVec S128 1 := andi main_v45 main_v47
  let main_c_12 : IVec S_ 1 := constantI S_ 1 1#1
  let main_v49 : IVec S_ 1 := (fun x v => Host.reduce IntOp.andi x v reducesTo_S128_S_d0 h_S_) main_v48 main_c_12
  let main_v50 : IVec S_ 1 := andi main_v43 main_v49
  let main_c_13 : IVec S_ 32 := constantI S_ 32 0#32
  let main_v51 : IVec S1 32 := broadcastInDim S1 ![] bcast_S_S1 main_c_13
  let main_v52 : IVec S1 1 := cmpi .sge main_arg2 main_v51
  let main_c_14 : IVec S_ 32 := constantI S_ 32 128#32
  let main_v53 : IVec S1 32 := broadcastInDim S1 ![] bcast_S_S1 main_c_14
  let main_v54 : IVec S1 1 := cmpi .slt main_arg2 main_v53
  let main_v55 : IVec S1 1 := andi main_v52 main_v54
  fn_part3 (F := F) main_arg1 main_arg2 main_arg4 main_v0 main_v3 main_v10 main_v23 main_v50 main_v55

def fn_part1 {F : FTy → Type} [FloatOps F] (main_arg0 : IVec S128 32) (main_arg1 : IVec S128 32) (main_arg2 : IVec S1 32) (main_arg3 : IVec S128 32) (main_arg4 : IVec S128 32) (main_v0 : IVec S128 32) (main_v3 : IVec S127 1) (main_v10 : IVec S127 1) (main_v19 : IVec S127 1) (main_v20 : IVec S127 32) (main_v21 : IVec S127 32) : IVec S_ 1 :=
  let main_v22 : IVec S127 1 := cmpi .eq main_v20 main_v21
  let main_v23 : IVec S127 1 := andi main_v19 main_v22
  let main_c_1 : IVec S_ 32 := constantI S_ 32 0#32
  let main_v24 : IVec S128 32 := broadcastInDim S128 ![] bcast_S_S128 main_c_1
  let main_v25 : IVec S128 1 := cmpi .sge main_arg0 main_v24
  let main_c_2 : IVec S_ 32 := constantI S_ 32 32#32
  let main_v26 : IVec S128 32 := broadcastInDim S128 ![] bcast_S_S128 main_c_2
  let main_v27 : IVec S128 1 := cmpi .slt main_arg0 main_v26
  let main_v28 : IVec S128 1 := andi main_v25 main_v27
  let main_c_3 : IVec S_ 1 := constantI S_ 1 1#1
  let main_v29 : IVec S_ 1 := (fun x v => Host.reduce IntOp.andi x v reducesTo_S128_S_d0 h_S_) main_v28 main_c_3
  let main_c_4 : IVec S_ 32 := constantI S_ 32 0#32
  let main_v30 : IVec S128 32 := broadcastInDim S128 ![] bcast_S_S128 main_c_4
  let main_v31 : IVec S128 1 := cmpi .sge main_arg1 main_v30
  let main_c_5 : IVec S_ 32 := constantI S_ 32 4#32
  let main_v32 : IVec S128 32 := broadcastInDim S128 ![] bcast_S_S128 main_c_5
  let main_v33 : IVec S128 1 := cmpi .sle main_arg1 main_v32
  let main_v34 : IVec S128 1 := andi main_v31 main_v33
  let main_c_6 : IVec S_ 1 := constantI S_ 1 1#1
  let main_v35 : IVec S_ 1 := (fun x v => Host.reduce IntOp.andi x v reducesTo_S128_S_d0 h_S_) main_v34 main_c_6
  let main_v36 : IVec S_ 1 := andi main_v29 main_v35
  let main_c_7 : IVec S_ 32 := constantI S_ 32 0#32
  let main_v37 : IVec S128 32 := broadcastInDim S128 ![] bcast_S_S128 main_c_7
  let main_v38 : IVec S128 1 := cmpi .sge main_arg3 main_v37
  fn_part2 (F := F) main_arg1 main_arg2 main_arg3 main_arg4 main_v0 main_v3 main_v10 main_v23 main_v36 main_v38

def fn {F : FTy → Type} [FloatOps F] (main_arg0 : IVec S128 32) (main_arg1 : IVec S128 32) (main_arg2 : IVec S1 32) (main_arg3 : IVec S128 32) (main_arg4 : IVec S128 32) (main_arg5 : FVec F S65536x8x128 .f32) (main_arg6 : FVec F S4x32x1024x2048 .f32) (main_arg7 : FVec F S4x32x2048 .f32) (main_arg8 : FVec F S4x32x1024x1024 .f32) (main_arg9 : FVec F S4x32x1024 .f32) : IVec S_ 1 :=
  let main_v0 : IVec S128 32 := iotaInDim S128 32 0
  let main_v1 : IVec S127 32 := (extractStridedSlice S127 ![1] · slices_S128_S127_1) main_arg0
  let main_v2 : IVec S127 32 := (extractStridedSlice S127 ![0] · slices_S128_S127_0) main_arg0
  let main_v3 : IVec S127 1 := cmpi .eq main_v1 main_v2
  let main_v4 : IVec S127 32 := (extractStridedSlice S127 ![1] · slices_S128_S127_1) main_arg3
  let main_v5 : IVec S127 32 := (extractStridedSlice S127 ![0] · slices_S128_S127_0) main_arg3
  let main_v6 : IVec S127 1 := cmpi .eq main_v4 main_v5
  let main_v7 : IVec S127 32 := (extractStridedSlice S127 ![1] · slices_S128_S127_1) main_arg4
  let main_v8 : IVec S127 32 := (extractStridedSlice S127 ![0] · slices_S128_S127_0) main_arg4
  let main_v9 : IVec S127 1 := cmpi .eq main_v7 main_v8
  let main_v10 : IVec S127 1 := andi main_v6 main_v9
  let main_v11 : IVec S127 32 := (extractStridedSlice S127 ![1] · slices_S128_S127_1) main_arg1
  let main_c : IVec S_ 32 := constantI S_ 32 0#32
  let main_v12 : IVec S127 32 := broadcastInDim S127 ![] bcast_S_S127 main_c
  let main_v13 : IVec S127 1 := cmpi .sgt main_v11 main_v12
  let main_v14 : IVec S127 32 := (extractStridedSlice S127 ![1] · slices_S128_S127_1) main_arg3
  let main_v15 : IVec S127 32 := (extractStridedSlice S127 ![0] · slices_S128_S127_0) main_arg3
  let main_c_0 : IVec S_ 32 := constantI S_ 32 1#32
  let main_v16 : IVec S127 32 := broadcastInDim S127 ![] bcast_S_S127 main_c_0
  let main_v17 : IVec S127 32 := subi main_v16 main_v15
  let main_v18 : IVec S127 1 := cmpi .eq main_v14 main_v17
  let main_v19 : IVec S127 1 := andi main_v13 main_v18
  let main_v20 : IVec S127 32 := (extractStridedSlice S127 ![0] · slices_S128_S127_0) main_arg4
  let main_v21 : IVec S127 32 := (extractStridedSlice S127 ![1] · slices_S128_S127_1) main_arg0
  fn_part1 (F := F) main_arg0 main_arg1 main_arg2 main_arg3 main_arg4 main_v0 main_v3 main_v10 main_v19 main_v20 main_v21
-- ==== Kernel.lean ====
abbrev S12288x1024 : Shape := ⟨2, ![12288, 1024]⟩
abbrev S1024x1024 : Shape := ⟨2, ![1024, 1024]⟩
abbrev S4096x512 : Shape := ⟨2, ![4096, 512]⟩
abbrev S512x1024 : Shape := ⟨2, ![512, 1024]⟩
abbrev S256x1024 : Shape := ⟨2, ![256, 1024]⟩
abbrev S512x512 : Shape := ⟨2, ![512, 512]⟩
abbrev S512x128 : Shape := ⟨2, ![512, 128]⟩
abbrev S1024x128 : Shape := ⟨2, ![1024, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 6
  | .vmem => 12
  | .smem => 0
  | _ => 0

abbrev bufTy : (tb : Table) → Fin (tcTables nBuf tb) → BufTy
  | .hbm, ⟨0, _⟩ => ⟨S12288x1024, .bf16⟩
  | .hbm, ⟨1, _⟩ => ⟨S12288x1024, .bf16⟩
  | .hbm, ⟨2, _⟩ => ⟨S12288x1024, .bf16⟩
  | .hbm, ⟨3, _⟩ => ⟨S1024x1024, .bf16⟩
  | .hbm, ⟨4, _⟩ => ⟨S1024x1024, .bf16⟩
  | .hbm, ⟨5, _⟩ => ⟨S4096x512, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S512x512, .bf16⟩
  | .local _ .vmem, ⟨11, _⟩ => ⟨S512x512, .bf16⟩
  | _, _ => ⟨S12288x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c16_i32 : BitVec 32 := 16#32
  let v1 : BitVec 32 := Scalar.addi c16_i32 v0
  let v2 : BitVec 32 := Scalar.addi v1 arg1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "scale" => some (((Real.sqrt 96)⁻¹ : ℝ) : EReal)
  | _ => none
-- ==== ReferenceIdeal.lean ====
abbrev S12288x1024 : Shape := ⟨2, ![12288, 1024]⟩
abbrev S1024x1024 : Shape := ⟨2, ![1024, 1024]⟩
abbrev S4096x1024 : Shape := ⟨2, ![4096, 1024]⟩
abbrev S4x1024x8x128 : Shape := ⟨4, ![4, 1024, 8, 128]⟩
abbrev S4x1024x8x64 : Shape := ⟨4, ![4, 1024, 8, 64]⟩
abbrev S4x256x8x128 : Shape := ⟨4, ![4, 256, 8, 128]⟩
abbrev S4x256x8x64 : Shape := ⟨4, ![4, 256, 8, 64]⟩
abbrev S4x1280x8x128 : Shape := ⟨4, ![4, 1280, 8, 128]⟩
abbrev S4x1280x8x64 : Shape := ⟨4, ![4, 1280, 8, 64]⟩
abbrev S4x8x1024x1280 : Shape := ⟨4, ![4, 8, 1024, 1280]⟩
abbrev S_ : Shape := ⟨0, ![]⟩
abbrev S4x8x1024 : Shape := ⟨3, ![4, 8, 1024]⟩
abbrev S4x8x1024x1 : Shape := ⟨4, ![4, 8, 1024, 1]⟩
abbrev S4x8x64x1024 : Shape := ⟨4, ![4, 8, 64, 1024]⟩
abbrev S4096x512 : Shape := ⟨2, ![4096, 512]⟩

abbrev nBuf : Space → Nat
  | .hbm => 45
  | .vmem => 0
  | .smem => 0
  | _ => 0

abbrev bufTy : (tb : Table) → Fin (tcTables nBuf tb) → BufTy
  | .hbm, ⟨0, _⟩ => ⟨S12288x1024, .bf16⟩
  | .hbm, ⟨1, _⟩ => ⟨S12288x1024, .bf16⟩
  | .hbm, ⟨2, _⟩ => ⟨S12288x1024, .bf16⟩
  | .hbm, ⟨3, _⟩ => ⟨S1024x1024, .bf16⟩
  | .hbm, ⟨4, _⟩ => ⟨S1024x1024, .bf16⟩
  | .hbm, ⟨5, _⟩ => ⟨S12288x1024, .f32⟩
  | .hbm, ⟨6, _⟩ => ⟨S12288x1024, .f32⟩
  | .hbm, ⟨7, _⟩ => ⟨S12288x1024, .f32⟩
  | .hbm, ⟨8, _⟩ => ⟨S1024x1024, .f32⟩
  | .hbm, ⟨9, _⟩ => ⟨S1024x1024, .f32⟩
  | .hbm, ⟨10, _⟩ => ⟨S4096x1024, .f32⟩
  | .hbm, ⟨11, _⟩ => ⟨S4x1024x8x128, .f32⟩
  | .hbm, ⟨12, _⟩ => ⟨S4096x1024, .f32⟩
  | .hbm, ⟨13, _⟩ => ⟨S4x1024x8x128, .f32⟩
  | .hbm, ⟨14, _⟩ => ⟨S4096x1024, .f32⟩
  | .hbm, ⟨15, _⟩ => ⟨S4x1024x8x128, .f32⟩
  | .hbm, ⟨16, _⟩ => ⟨S4x1024x8x64, .f32⟩
  | .hbm, ⟨17, _⟩ => ⟨S4x256x8x128, .f32⟩
  | .hbm, ⟨18, _⟩ => ⟨S4x256x8x128, .f32⟩
  | .hbm, ⟨19, _⟩ => ⟨S4x256x8x64, .f32⟩
  | .hbm, ⟨20, _⟩ => ⟨S4x1280x8x128, .f32⟩
  | .hbm, ⟨21, _⟩ => ⟨S4x1280x8x64, .f32⟩
  | .hbm, ⟨22, _⟩ => ⟨S4x8x1024x1280, .f32⟩
  | .hbm, ⟨23, _⟩ => ⟨S_, .f32⟩
  | .hbm, ⟨24, _⟩ => ⟨S_, .f32⟩
  | .hbm, ⟨25, _⟩ => ⟨S4x8x1024x1280, .f32⟩
  | .hbm, ⟨26, _⟩ => ⟨S4x8x1024x1280, .f32⟩
  | .hbm, ⟨27, _⟩ => ⟨S_, .f32⟩
  | .hbm, ⟨28, _⟩ => ⟨S4x8x1024, .f32⟩
  | .hbm, ⟨29, _⟩ => ⟨S_, .f32⟩
  | .hbm, ⟨30, _⟩ => ⟨S4x8x1024, .f32⟩
  | .hbm, ⟨31, _⟩ => ⟨S4x8x1024, .f32⟩
  | .hbm, ⟨32, _⟩ => ⟨S4x8x1024x1, .f32⟩
  | .hbm, ⟨33, _⟩ => ⟨S4x8x1024x1280, .f32⟩
  | .hbm, ⟨34, _⟩ => ⟨S4x8x1024x1280, .f32⟩
  | .hbm, ⟨35, _⟩ => ⟨S4x8x1024x1280, .f32⟩
  | .hbm, ⟨36, _⟩ => ⟨S_, .f32⟩
  | .hbm, ⟨37, _⟩ => ⟨S4x8x1024, .f32⟩
  | .hbm, ⟨38, _⟩ => ⟨S4x8x1024x1, .f32⟩
  | .hbm, ⟨39, _⟩ => ⟨S4x8x1024x1280, .f32⟩
  | .hbm, ⟨40, _⟩ => ⟨S4x8x1024x1280, .f32⟩
  | .hbm, ⟨41, _⟩ => ⟨S4x8x64x1024, .f32⟩
  | .hbm, ⟨42, _⟩ => ⟨S4x1024x8x64, .f32⟩
  | .hbm, ⟨43, _⟩ => ⟨S4096x512, .f32⟩
  | .hbm, ⟨44, _⟩ => ⟨S4096x512, .bf16⟩
  | _, _ => ⟨S12288x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_0 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩

abbrev nD : Nat := 1
abbrev τ : Topo := Topo.v7x

variable {F : FTy → Type} [FloatOps F]
-- ==== Kernel2.lean ====
abbrev S128 : Shape := ⟨1, ![128]⟩
abbrev S1 : Shape := ⟨1, ![1]⟩
abbrev S65536x8x128 : Shape := ⟨3, ![65536, 8, 128]⟩
abbrev S4x32x1024x2048 : Shape := ⟨4, ![4, 32, 1024, 2048]⟩
abbrev S4x32x2048 : Shape := ⟨3, ![4, 32, 2048]⟩
abbrev S4x32x1024x1024 : Shape := ⟨4, ![4, 32, 1024, 1024]⟩
abbrev S4x32x1024 : Shape := ⟨3, ![4, 32, 1024]⟩
abbrev S4x32x1x2048 : Shape := ⟨4, ![4, 32, 1, 2048]⟩
abbrev S4x32x1x1024 : Shape := ⟨4, ![4, 32, 1, 1024]⟩
abbrev S512x8x128 : Shape := ⟨3, ![512, 8, 128]⟩
abbrev S1x1x1x2048 : Shape := ⟨4, ![1, 1, 1, 2048]⟩
abbrev S1x1x1x1024 : Shape := ⟨4, ![1, 1, 1, 1024]⟩
abbrev S1024x2048 : Shape := ⟨2, ![1024, 2048]⟩
abbrev S1024x1024 : Shape := ⟨2, ![1024, 1024]⟩
abbrev S2x1024x2048 : Shape := ⟨3, ![2, 1024, 2048]⟩
abbrev S2x1024x1024 : Shape := ⟨3, ![2, 1024, 1024]⟩
abbrev S2x2 : Shape := ⟨2, ![2, 2]⟩
abbrev S1x1 : Shape := ⟨2, ![1, 1]⟩
abbrev S_ : Shape := ⟨0, ![]⟩
abbrev S1x1024x2048 : Shape := ⟨3, ![1, 1024, 2048]⟩
abbrev S1x1x1024x2048 : Shape := ⟨4, ![1, 1, 1024, 2048]⟩
abbrev S1x1024x1024 : Shape := ⟨3, ![1, 1024, 1024]⟩
abbrev S1x1x1024x1024 : Shape := ⟨4, ![1, 1, 1024, 1024]⟩
abbrev S128x8x128 : Shape := ⟨3, ![128, 8, 128]⟩
abbrev S128x1024 : Shape := ⟨2, ![128, 1024]⟩
abbrev S128x2048 : Shape := ⟨2, ![128, 2048]⟩
abbrev S1x2048 : Shape := ⟨2, ![1, 2048]⟩
abbrev S1x1024 : Shape := ⟨2, ![1, 1024]⟩
abbrev S384x8x128 : Shape := ⟨3, ![384, 8, 128]⟩
abbrev S256x8x128 : Shape := ⟨3, ![256, 8, 128]⟩
abbrev S256x1024 : Shape := ⟨2, ![256, 1024]⟩
abbrev S256x2048 : Shape := ⟨2, ![256, 2048]⟩
abbrev S384x1024 : Shape := ⟨2, ![384, 1024]⟩
abbrev S384x2048 : Shape := ⟨2, ![384, 2048]⟩
abbrev S512x1024 : Shape := ⟨2, ![512, 1024]⟩
abbrev S512x2048 : Shape := ⟨2, ![512, 2048]⟩

abbrev nBuf : Space → Nat
  | .hbm => 8
  | .vmem => 12
  | .smem => 5
  | _ => 0

abbrev bufTy : (tb : Table) → Fin (tcTables nBuf tb) → BufTy
  | .hbm, ⟨0, _⟩ => ⟨S65536x8x128, .f32⟩
  | .hbm, ⟨1, _⟩ => ⟨S4x32x1024x2048, .f32⟩
  | .hbm, ⟨2, _⟩ => ⟨S4x32x2048, .f32⟩
  | .hbm, ⟨3, _⟩ => ⟨S4x32x1024x1024, .f32⟩
  | .hbm, ⟨4, _⟩ => ⟨S4x32x1024, .f32⟩
  | .hbm, ⟨5, _⟩ => ⟨S4x32x1x2048, .f32⟩
  | .hbm, ⟨6, _⟩ => ⟨S4x32x1x1024, .f32⟩
  | .hbm, ⟨7, _⟩ => ⟨S65536x8x128, .f32⟩
  | .local _ .vmem, ⟨0, _⟩ => ⟨S512x8x128, .f32⟩
  | .local _ .vmem, ⟨1, _⟩ => ⟨S512x8x128, .f32⟩
  | .local _ .vmem, ⟨2, _⟩ => ⟨S1x1x1x2048, .f32⟩
  | .local _ .vmem, ⟨3, _⟩ => ⟨S1x1x1x2048, .f32⟩
  | .local _ .vmem, ⟨4, _⟩ => ⟨S1x1x1x1024, .f32⟩
  | .local _ .vmem, ⟨5, _⟩ => ⟨S1x1x1x1024, .f32⟩
  | .local _ .vmem, ⟨6, _⟩ => ⟨S512x8x128, .f32⟩
  | .local _ .vmem, ⟨7, _⟩ => ⟨S512x8x128, .f32⟩
  | .local _ .vmem, ⟨8, _⟩ => ⟨S1024x2048, .bf16⟩
  | .local _ .vmem, ⟨9, _⟩ => ⟨S1024x1024, .bf16⟩
  | .local _ .vmem, ⟨10, _⟩ => ⟨S2x1024x2048, .f32⟩
  | .local _ .vmem, ⟨11, _⟩ => ⟨S2x1024x1024, .f32⟩
  | .local _ .smem, ⟨0, _⟩ => ⟨S128, .i32⟩
  | .local _ .smem, ⟨1, _⟩ => ⟨S128, .i32⟩
  | .local _ .smem, ⟨2, _⟩ => ⟨S1, .i32⟩
  | .local _ .smem, ⟨3, _⟩ => ⟨S128, .i32⟩
  | .local _ .smem, ⟨4, _⟩ => ⟨S128, .i32⟩
  | _, _ => ⟨S65536x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg5 : Ref sig .tc := ⟨.hbm, 0, rfl⟩
abbrev main_arg6 : Ref sig .tc := ⟨.hbm, 1, rfl⟩
abbrev main_arg7 : Ref sig .tc := ⟨.hbm, 2, rfl⟩
abbrev main_arg8 : Ref sig .tc := ⟨.hbm, 3, rfl⟩
abbrev main_arg9 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev main_arg4 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![128], ![false]⟩

abbrev pre0 : Pipeline.Prefetch sig := ⟨5, ![main_arg0.idx, main_arg1.idx, main_arg2.idx, main_arg3.idx, main_arg4.idx], fun | 0 => main_arg0.names | 1 => main_arg1.names | 2 => main_arg2.names | 3 => main_arg3.names | 4 => main_arg4.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v6 : BitVec 32 := Scalar.subi arg0 c1_i32
  let c0_i32_1 : BitVec 32 := 0#32
  let v7 : BitVec 32 := Scalar.maxsi v6 c0_i32_1
  let v8 : Index := Scalar.indexCast v7
  ![v8.toNat]
def k0_off3 (i : grid0.Coords) : Fin 1 → Nat :=
  let arg0 : BitVec 32 := BitVec.ofNat 32 (i 0).val
  let v30 : Index := Scalar.indexCast arg0
  ![v30.toNat]
def k0_cond2 (i : grid0.Coords) : BitVec 1 :=
  let arg0 : BitVec 32 := BitVec.ofNat 32 (i 0).val
  let c0_i32_10 : BitVec 32 := 0#32
  let v32 : BitVec 1 := Scalar.cmpi .eq arg0 c0_i32_10
  let v33 : BitVec 32 := Scalar.extui v32
  let c0_i32_11 : BitVec 32 := 0#32
  let v34 : BitVec 1 := Scalar.cmpi .ne v33 c0_i32_11
  v34

def k0_off4 (i : grid0.Coords) : Fin 1 → Nat :=
  let arg0 : BitVec 32 := BitVec.ofNat 32 (i 0).val
  let v68 : Index := Scalar.indexCast arg0
  ![v68.toNat]
def k0_off5 (v31 : BitVec 32) : Fin 2 → Nat :=
  let c0_i32_34 : BitVec 32 := 0#32
  ![v31.toNat, 0]
def k0_cond1 (i : grid0.Coords) (v1 : BitVec 32) (v5 : BitVec 32) (v9 : BitVec 32) : BitVec 1 :=
  let c0_i32 : BitVec 32 := 0#32
  let v2 : BitVec 1 := Scalar.cmpi .sgt v1 c0_i32
  let arg0 : BitVec 32 := BitVec.ofNat 32 (i 0).val
  let c0_i32_0 : BitVec 32 := 0#32
  let v3 : BitVec 1 := Scalar.cmpi .eq arg0 c0_i32_0
  let v10 : BitVec 1 := Scalar.cmpi .ne v5 v9
  let v11 : BitVec 1 := Scalar.ori v3 v10
  let v12 : BitVec 1 := Scalar.andi v2 v11
  let v13 : BitVec 32 := Scalar.extui v12
  let c0_i32_2 : BitVec 32 := 0#32
  let v14 : BitVec 1 := Scalar.cmpi .ne v13 c0_i32_2
  v14

def k0_off6 (v31 : BitVec 32) : Fin 3 → Nat :=
  let c0_i32_35 : BitVec 32 := 0#32
  let c0_i32_36 : BitVec 32 := 0#32
  ![v31.toNat, 0, 0]
def k0_off7 (v69 : BitVec 32) : Fin 4 → Nat :=
  let c0_i32_33 : BitVec 32 := 0#32
  let c0_i32_37 : BitVec 32 := 0#32
  let c0_i32_38 : BitVec 32 := 0#32
  ![0, v69.toNat, 0, 0]

def k0_off8 (v31 : BitVec 32) : Fin 2 → Nat :=
  let c1_i32_40 : BitVec 32 := 1#32
  ![v31.toNat, 1]
def k0_off9 (v31 : BitVec 32) : Fin 3 → Nat :=
  let c0_i32_41 : BitVec 32 := 0#32
  let c0_i32_42 : BitVec 32 := 0#32
  ![v31.toNat, 0, 0]
def k0_off10 (v69 : BitVec 32) : Fin 4 → Nat :=
  let c0_i32_39 : BitVec 32 := 0#32
  let c0_i32_43 : BitVec 32 := 0#32
  let c0_i32_44 : BitVec 32 := 0#32
  ![0, v69.toNat, 0, 0]

def k0_chk2 (i : grid0.Coords) (v1 : BitVec 32) (v5 : BitVec 32) (v9 : BitVec 32) (v69 : BitVec 32) : Prop :=
  (∀ (k0_h1 : k0_cond1 i v1 v5 v9 = 1#1), ∀ (k0_h2 : k0_cond2 i = 1#1), ∀ a, (k0_off7 v69) a + S1x1x1024x2048.size a ≤ S4x32x1024x2048.size a) ∧
  (∀ (k0_h1 : k0_cond1 i v1 v5 v9 = 1#1), ∀ (k0_h2 : k0_cond2 i = 1#1), ∀ a, (k0_off10 v69) a + S1x1x1024x1024.size a ≤ S4x32x1024x1024.size a)
theorem k0_off7_inb : ∀ (i : grid0.Coords) (v1 : BitVec 32) (v5 : BitVec 32) (v9 : BitVec 32) (v69 : BitVec 32) (k0_hw2 : k0_chk2 i v1 v5 v9 v69), ∀ (k0_h1 : k0_cond1 i v1 v5 v9 = 1#1), ∀ (k0_h2 : k0_cond2 i = 1#1), ∀ a, (k0_off7 v69) a + S1x1x1024x2048.size a ≤ S4x32x1024x2048.size a := fun i v1 v5 v9 v69 k0_hw2 k0_h1 k0_h2 => k0_hw2.1 k0_h1 k0_h2
theorem k0_off10_inb : ∀ (i : grid0.Coords) (v1 : BitVec 32) (v5 : BitVec 32) (v9 : BitVec 32) (v69 : BitVec 32) (k0_hw2 : k0_chk2 i v1 v5 v9 v69), ∀ (k0_h1 : k0_cond1 i v1 v5 v9 = 1#1), ∀ (k0_h2 : k0_cond2 i = 1#1), ∀ a, (k0_off10 v69) a + S1x1x1024x1024.size a ≤ S4x32x1024x1024.size a := fun i v1 v5 v9 v69 k0_hw2 k0_h1 k0_h2 => k0_hw2.2 k0_h1 k0_h2

def k0_off11 (i : grid0.Coords) : Fin 1 → Nat :=
  let arg0 : BitVec 32 := BitVec.ofNat 32 (i 0).val
  let v35 : Index := Scalar.indexCast arg0
  ![v35.toNat]
def k0_off12 (v31 : BitVec 32) : Fin 2 → Nat :=
  let c0_i32_13 : BitVec 32 := 0#32
  ![v31.toNat, 0]
def k0_off13 (v31 : BitVec 32) : Fin 3 → Nat :=
  let c0_i32_14 : BitVec 32 := 0#32
  let c0_i32_15 : BitVec 32 := 0#32
  ![v31.toNat, 0, 0]
def k0_off14 (v36 : BitVec 32) : Fin 4 → Nat :=
  let c0_i32_12 : BitVec 32 := 0#32
  let c0_i32_16 : BitVec 32 := 0#32
  let c0_i32_17 : BitVec 32 := 0#32
  ![0, v36.toNat, 0, 0]

def k0_off15 (v31 : BitVec 32) : Fin 2 → Nat :=
  let c1_i32_19 : BitVec 32 := 1#32
  ![v31.toNat, 1]
def k0_off16 (v31 : BitVec 32) : Fin 3 → Nat :=
  let c0_i32_20 : BitVec 32 := 0#32
  let c0_i32_21 : BitVec 32 := 0#32
  ![v31.toNat, 0, 0]
def k0_off17 (v36 : BitVec 32) : Fin 4 → Nat :=
  let c0_i32_18 : BitVec 32 := 0#32
  let c0_i32_22 : BitVec 32 := 0#32
  let c0_i32_23 : BitVec 32 := 0#32
  ![0, v36.toNat, 0, 0]

def k0_chk3 (i : grid0.Coords) (v1 : BitVec 32) (v5 : BitVec 32) (v9 : BitVec 32) (v36 : BitVec 32) : Prop :=
  (∀ (k0_h1 : k0_cond1 i v1 v5 v9 = 1#1), ∀ a, (k0_off14 v36) a + S1x1x1024x2048.size a ≤ S4x32x1024x2048.size a) ∧
  (∀ (k0_h1 : k0_cond1 i v1 v5 v9 = 1#1), ∀ a, (k0_off17 v36) a + S1x1x1024x1024.size a ≤ S4x32x1024x1024.size a)
theorem k0_off14_inb : ∀ (i : grid0.Coords) (v1 : BitVec 32) (v5 : BitVec 32) (v9 : BitVec 32) (v36 : BitVec 32) (k0_hw3 : k0_chk3 i v1 v5 v9 v36), ∀ (k0_h1 : k0_cond1 i v1 v5 v9 = 1#1), ∀ a, (k0_off14 v36) a + S1x1x1024x2048.size a ≤ S4x32x1024x2048.size a := fun i v1 v5 v9 v36 k0_hw3 k0_h1 => k0_hw3.1 k0_h1
theorem k0_off17_inb : ∀ (i : grid0.Coords) (v1 : BitVec 32) (v5 : BitVec 32) (v9 : BitVec 32) (v36 : BitVec 32) (k0_hw3 : k0_chk3 i v1 v5 v9 v36), ∀ (k0_h1 : k0_cond1 i v1 v5 v9 = 1#1), ∀ a, (k0_off17 v36) a + S1x1x1024x1024.size a ≤ S4x32x1024x1024.size a := fun i v1 v5 v9 v36 k0_hw3 k0_h1 => k0_hw3.2 k0_h1

def k0_off18 (i : grid0.Coords) : Fin 1 → Nat :=
  let arg0 : BitVec 32 := BitVec.ofNat 32 (i 0).val
  let v49 : Index := Scalar.indexCast arg0
  ![v49.toNat]
def k0_off19 (i : grid0.Coords) : Fin 1 → Nat :=
  let arg0 : BitVec 32 := BitVec.ofNat 32 (i 0).val
  let v68 : Index := Scalar.indexCast arg0
  ![v68.toNat]
def k0_off20 (v31 : BitVec 32) : Fin 2 → Nat :=
  let c1_i32_33 : BitVec 32 := 1#32
  let v70 : BitVec 32 := Scalar.subi c1_i32_33 v31
  let c0_i32_35 : BitVec 32 := 0#32
  ![v70.toNat, 0]
def k0_cond3 (v50 : BitVec 32) : BitVec 1 :=
  let c0_i32_24 : BitVec 32 := 0#32
  let v51 : BitVec 1 := Scalar.cmpi .sge v50 c0_i32_24
  let v52 : BitVec 32 := Scalar.extui v51
  let c0_i32_25 : BitVec 32 := 0#32
  let v53 : BitVec 1 := Scalar.cmpi .ne v52 c0_i32_25
  v53

def k0_off21 (v31 : BitVec 32) : Fin 3 → Nat :=
  let c1_i32_33 : BitVec 32 := 1#32
  let v70 : BitVec 32 := Scalar.subi c1_i32_33 v31
  let c0_i32_36 : BitVec 32 := 0#32
  let c0_i32_37 : BitVec 32 := 0#32
  ![v70.toNat, 0, 0]
def k0_off22 (v69 : BitVec 32) : Fin 4 → Nat :=
  let c0_i32_34 : BitVec 32 := 0#32
  let c0_i32_38 : BitVec 32 := 0#32
  let c0_i32_39 : BitVec 32 := 0#32
  ![0, v69.toNat, 0, 0]

def k0_off23 (v31 : BitVec 32) : Fin 2 → Nat :=
  let c1_i32_33 : BitVec 32 := 1#32
  let v70 : BitVec 32 := Scalar.subi c1_i32_33 v31
  let c1_i32_41 : BitVec 32 := 1#32
  ![v70.toNat, 1]
def k0_off24 (v31 : BitVec 32) : Fin 3 → Nat :=
  let c1_i32_33 : BitVec 32 := 1#32
  let v70 : BitVec 32 := Scalar.subi c1_i32_33 v31
  let c0_i32_42 : BitVec 32 := 0#32
  let c0_i32_43 : BitVec 32 := 0#32
  ![v70.toNat, 0, 0]

def k0_chk4 (i : grid0.Coords) (v1 : BitVec 32) (v5 : BitVec 32) (v9 : BitVec 32) (v31 : BitVec 32) (v50 : BitVec 32) : Prop :=
  (∀ (k0_h1 : k0_cond1 i v1 v5 v9 = 1#1), ∀ (k0_h3 : k0_cond3 v50 = 1#1), ∀ a, (k0_off20 v31) a + S1x1.size a ≤ S2x2.size a) ∧
  (∀ (k0_h1 : k0_cond1 i v1 v5 v9 = 1#1), ∀ (k0_h3 : k0_cond3 v50 = 1#1), ∀ a, (k0_off21 v31) a + S1x1024x2048.size a ≤ S2x1024x2048.size a) ∧
  (∀ (k0_h1 : k0_cond1 i v1 v5 v9 = 1#1), ∀ (k0_h3 : k0_cond3 v50 = 1#1), ∀ a, (k0_off23 v31) a + S1x1.size a ≤ S2x2.size a) ∧
  (∀ (k0_h1 : k0_cond1 i v1 v5 v9 = 1#1), ∀ (k0_h3 : k0_cond3 v50 = 1#1), ∀ a, (k0_off24 v31) a + S1x1024x1024.size a ≤ S2x1024x1024.size a)
theorem k0_off20_inb : ∀ (i : grid0.Coords) (v1 : BitVec 32) (v5 : BitVec 32) (v9 : BitVec 32) (v31 : BitVec 32) (v50 : BitVec 32) (k0_hw4 : k0_chk4 i v1 v5 v9 v31 v50), ∀ (k0_h1 : k0_cond1 i v1 v5 v9 = 1#1), ∀ (k0_h3 : k0_cond3 v50 = 1#1), ∀ a, (k0_off20 v31) a + S1x1.size a ≤ S2x2.size a := fun i v1 v5 v9 v31 v50 k0_hw4 k0_h1 k0_h3 => k0_hw4.1 k0_h1 k0_h3
theorem k0_off21_inb : ∀ (i : grid0.Coords) (v1 : BitVec 32) (v5 : BitVec 32) (v9 : BitVec 32) (v31 : BitVec 32) (v50 : BitVec 32) (k0_hw4 : k0_chk4 i v1 v5 v9 v31 v50), ∀ (k0_h1 : k0_cond1 i v1 v5 v9 = 1#1), ∀ (k0_h3 : k0_cond3 v50 = 1#1), ∀ a, (k0_off21 v31) a + S1x1024x2048.size a ≤ S2x1024x2048.size a := fun i v1 v5 v9 v31 v50 k0_hw4 k0_h1 k0_h3 => k0_hw4.2.1 k0_h1 k0_h3
theorem k0_off23_inb : ∀ (i : grid0.Coords) (v1 : BitVec 32) (v5 : BitVec 32) (v9 : BitVec 32) (v31 : BitVec 32) (v50 : BitVec 32) (k0_hw4 : k0_chk4 i v1 v5 v9 v31 v50), ∀ (k0_h1 : k0_cond1 i v1 v5 v9 = 1#1), ∀ (k0_h3 : k0_cond3 v50 = 1#1), ∀ a, (k0_off23 v31) a + S1x1.size a ≤ S2x2.size a := fun i v1 v5 v9 v31 v50 k0_hw4 k0_h1 k0_h3 => k0_hw4.2.2.1 k0_h1 k0_h3
theorem k0_off24_inb : ∀ (i : grid0.Coords) (v1 : BitVec 32) (v5 : BitVec 32) (v9 : BitVec 32) (v31 : BitVec 32) (v50 : BitVec 32) (k0_hw4 : k0_chk4 i v1 v5 v9 v31 v50), ∀ (k0_h1 : k0_cond1 i v1 v5 v9 = 1#1), ∀ (k0_h3 : k0_cond3 v50 = 1#1), ∀ a, (k0_off24 v31) a + S1x1024x1024.size a ≤ S2x1024x1024.size a := fun i v1 v5 v9 v31 v50 k0_hw4 k0_h1 k0_h3 => k0_hw4.2.2.2 k0_h1 k0_h3

def k0_off25 (v69 : BitVec 32) : Fin 4 → Nat :=
  let c0_i32_40 : BitVec 32 := 0#32
  let c0_i32_44 : BitVec 32 := 0#32
  let c0_i32_45 : BitVec 32 := 0#32
  ![0, v69.toNat, 0, 0]

def k0_chk5 (i : grid0.Coords) (v1 : BitVec 32) (v5 : BitVec 32) (v9 : BitVec 32) (v50 : BitVec 32) (v69 : BitVec 32) : Prop :=
  (∀ (k0_h1 : k0_cond1 i v1 v5 v9 = 1#1), ∀ (k0_h3 : k0_cond3 v50 = 1#1), ∀ a, (k0_off22 v69) a + S1x1x1024x2048.size a ≤ S4x32x1024x2048.size a) ∧
  (∀ (k0_h1 : k0_cond1 i v1 v5 v9 = 1#1), ∀ (k0_h3 : k0_cond3 v50 = 1#1), ∀ a, (k0_off25 v69) a + S1x1x1024x1024.size a ≤ S4x32x1024x1024.size a)
theorem k0_off22_inb : ∀ (i : grid0.Coords) (v1 : BitVec 32) (v5 : BitVec 32) (v9 : BitVec 32) (v50 : BitVec 32) (v69 : BitVec 32) (k0_hw5 : k0_chk5 i v1 v5 v9 v50 v69), ∀ (k0_h1 : k0_cond1 i v1 v5 v9 = 1#1), ∀ (k0_h3 : k0_cond3 v50 = 1#1), ∀ a, (k0_off22 v69) a + S1x1x1024x2048.size a ≤ S4x32x1024x2048.size a := fun i v1 v5 v9 v50 v69 k0_hw5 k0_h1 k0_h3 => k0_hw5.1 k0_h1 k0_h3
theorem k0_off25_inb : ∀ (i : grid0.Coords) (v1 : BitVec 32) (v5 : BitVec 32) (v9 : BitVec 32) (v50 : BitVec 32) (v69 : BitVec 32) (k0_hw5 : k0_chk5 i v1 v5 v9 v50 v69), ∀ (k0_h1 : k0_cond1 i v1 v5 v9 = 1#1), ∀ (k0_h3 : k0_cond3 v50 = 1#1), ∀ a, (k0_off25 v69) a + S1x1x1024x1024.size a ≤ S4x32x1024x1024.size a := fun i v1 v5 v9 v50 v69 k0_hw5 k0_h1 k0_h3 => k0_hw5.2 k0_h1 k0_h3

def k0_off26 (v31 : BitVec 32) : Fin 3 → Nat :=
  let v54 : Index := Scalar.indexCast v31
  let c0 : Index := 0#32
  let c0_26 : Index := 0#32
  ![v54.toNat, 0, 0]
def k0_off27 (v31 : BitVec 32) : Fin 3 → Nat :=
  let v61 : Index := Scalar.indexCast v31
  let c0_29 : Index := 0#32
  let c0_30 : Index := 0#32
  ![v61.toNat, 0, 0]

def k0_chk1 (i : grid0.Coords) (v1 : BitVec 32) (v5 : BitVec 32) (v9 : BitVec 32) (v31 : BitVec 32) : Prop :=
  (∀ (k0_h1 : k0_cond1 i v1 v5 v9 = 1#1), ∀ (k0_h2 : k0_cond2 i = 1#1), ∀ a, (k0_off5 v31) a + S1x1.size a ≤ S2x2.size a) ∧
  (∀ (k0_h1 : k0_cond1 i v1 v5 v9 = 1#1), ∀ (k0_h2 : k0_cond2 i = 1#1), ∀ a, (k0_off6 v31) a + S1x1024x2048.size a ≤ S2x1024x2048.size a) ∧
  (∀ (k0_h1 : k0_cond1 i v1 v5 v9 = 1#1), ∀ (k0_h2 : k0_cond2 i = 1#1), ∀ a, (k0_off8 v31) a + S1x1.size a ≤ S2x2.size a) ∧
  (∀ (k0_h1 : k0_cond1 i v1 v5 v9 = 1#1), ∀ (k0_h2 : k0_cond2 i = 1#1), ∀ a, (k0_off9 v31) a + S1x1024x1024.size a ≤ S2x1024x1024.size a) ∧
  (∀ (k0_h1 : k0_cond1 i v1 v5 v9 = 1#1), ∀ a, (k0_off12 v31) a + S1x1.size a ≤ S2x2.size a) ∧
  (∀ (k0_h1 : k0_cond1 i v1 v5 v9 = 1#1), ∀ a, (k0_off13 v31) a + S1x1024x2048.size a ≤ S2x1024x2048.size a) ∧
  (∀ (k0_h1 : k0_cond1 i v1 v5 v9 = 1#1), ∀ a, (k0_off15 v31) a + S1x1.size a ≤ S2x2.size a) ∧
  (∀ (k0_h1 : k0_cond1 i v1 v5 v9 = 1#1), ∀ a, (k0_off16 v31) a + S1x1024x1024.size a ≤ S2x1024x1024.size a) ∧
  (∀ (k0_h1 : k0_cond1 i v1 v5 v9 = 1#1), ∀ a, (k0_off26 v31) a + S1x1024x2048.size a ≤ S2x1024x2048.size a) ∧
  (∀ (k0_h1 : k0_cond1 i v1 v5 v9 = 1#1), ∀ a, (k0_off27 v31) a + S1x1024x1024.size a ≤ S2x1024x1024.size a)
theorem k0_off5_inb : ∀ (i : grid0.Coords) (v1 : BitVec 32) (v5 : BitVec 32) (v9 : BitVec 32) (v31 : BitVec 32) (k0_hw1 : k0_chk1 i v1 v5 v9 v31), ∀ (k0_h1 : k0_cond1 i v1 v5 v9 = 1#1), ∀ (k0_h2 : k0_cond2 i = 1#1), ∀ a, (k0_off5 v31) a + S1x1.size a ≤ S2x2.size a := fun i v1 v5 v9 v31 k0_hw1 k0_h1 k0_h2 => k0_hw1.1 k0_h1 k0_h2
theorem k0_off6_inb : ∀ (i : grid0.Coords) (v1 : BitVec 32) (v5 : BitVec 32) (v9 : BitVec 32) (v31 : BitVec 32) (k0_hw1 : k0_chk1 i v1 v5 v9 v31), ∀ (k0_h1 : k0_cond1 i v1 v5 v9 = 1#1), ∀ (k0_h2 : k0_cond2 i = 1#1), ∀ a, (k0_off6 v31) a + S1x1024x2048.size a ≤ S2x1024x2048.size a := fun i v1 v5 v9 v31 k0_hw1 k0_h1 k0_h2 => k0_hw1.2.1 k0_h1 k0_h2
theorem k0_off8_inb : ∀ (i : grid0.Coords) (v1 : BitVec 32) (v5 : BitVec 32) (v9 : BitVec 32) (v31 : BitVec 32) (k0_hw1 : k0_chk1 i v1 v5 v9 v31), ∀ (k0_h1 : k0_cond1 i v1 v5 v9 = 1#1), ∀ (k0_h2 : k0_cond2 i = 1#1), ∀ a, (k0_off8 v31) a + S1x1.size a ≤ S2x2.size a := fun i v1 v5 v9 v31 k0_hw1 k0_h1 k0_h2 => k0_hw1.2.2.1 k0_h1 k0_h2
theorem k0_off9_inb : ∀ (i : grid0.Coords) (v1 : BitVec 32) (v5 : BitVec 32) (v9 : BitVec 32) (v31 : BitVec 32) (k0_hw1 : k0_chk1 i v1 v5 v9 v31), ∀ (k0_h1 : k0_cond1 i v1 v5 v9 = 1#1), ∀ (k0_h2 : k0_cond2 i = 1#1), ∀ a, (k0_off9 v31) a + S1x1024x1024.size a ≤ S2x1024x1024.size a := fun i v1 v5 v9 v31 k0_hw1 k0_h1 k0_h2 => k0_hw1.2.2.2.1 k0_h1 k0_h2
theorem k0_off12_inb : ∀ (i : grid0.Coords) (v1 : BitVec 32) (v5 : BitVec 32) (v9 : BitVec 32) (v31 : BitVec 32) (k0_hw1 : k0_chk1 i v1 v5 v9 v31), ∀ (k0_h1 : k0_cond1 i v1 v5 v9 = 1#1), ∀ a, (k0_off12 v31) a + S1x1.size a ≤ S2x2.size a := fun i v1 v5 v9 v31 k0_hw1 k0_h1 => k0_hw1.2.2.2.2.1 k0_h1
theorem k0_off13_inb : ∀ (i : grid0.Coords) (v1 : BitVec 32) (v5 : BitVec 32) (v9 : BitVec 32) (v31 : BitVec 32) (k0_hw1 : k0_chk1 i v1 v5 v9 v31), ∀ (k0_h1 : k0_cond1 i v1 v5 v9 = 1#1), ∀ a, (k0_off13 v31) a + S1x1024x2048.size a ≤ S2x1024x2048.size a := fun i v1 v5 v9 v31 k0_hw1 k0_h1 => k0_hw1.2.2.2.2.2.1 k0_h1
theorem k0_off15_inb : ∀ (i : grid0.Coords) (v1 : BitVec 32) (v5 : BitVec 32) (v9 : BitVec 32) (v31 : BitVec 32) (k0_hw1 : k0_chk1 i v1 v5 v9 v31), ∀ (k0_h1 : k0_cond1 i v1 v5 v9 = 1#1), ∀ a, (k0_off15 v31) a + S1x1.size a ≤ S2x2.size a := fun i v1 v5 v9 v31 k0_hw1 k0_h1 => k0_hw1.2.2.2.2.2.2.1 k0_h1
theorem k0_off16_inb : ∀ (i : grid0.Coords) (v1 : BitVec 32) (v5 : BitVec 32) (v9 : BitVec 32) (v31 : BitVec 32) (k0_hw1 : k0_chk1 i v1 v5 v9 v31), ∀ (k0_h1 : k0_cond1 i v1 v5 v9 = 1#1), ∀ a, (k0_off16 v31) a + S1x1024x1024.size a ≤ S2x1024x1024.size a := fun i v1 v5 v9 v31 k0_hw1 k0_h1 => k0_hw1.2.2.2.2.2.2.2.1 k0_h1
theorem k0_off26_inb : ∀ (i : grid0.Coords) (v1 : BitVec 32) (v5 : BitVec 32) (v9 : BitVec 32) (v31 : BitVec 32) (k0_hw1 : k0_chk1 i v1 v5 v9 v31), ∀ (k0_h1 : k0_cond1 i v1 v5 v9 = 1#1), ∀ a, (k0_off26 v31) a + S1x1024x2048.size a ≤ S2x1024x2048.size a := fun i v1 v5 v9 v31 k0_hw1 k0_h1 => k0_hw1.2.2.2.2.2.2.2.2.1 k0_h1
theorem k0_off27_inb : ∀ (i : grid0.Coords) (v1 : BitVec 32) (v5 : BitVec 32) (v9 : BitVec 32) (v31 : BitVec 32) (k0_hw1 : k0_chk1 i v1 v5 v9 v31), ∀ (k0_h1 : k0_cond1 i v1 v5 v9 = 1#1), ∀ a, (k0_off27 v31) a + S1x1024x1024.size a ≤ S2x1024x1024.size a := fun i v1 v5 v9 v31 k0_hw1 k0_h1 => k0_hw1.2.2.2.2.2.2.2.2.2 k0_h1

def k0_cond4 (v1 : BitVec 32) : BitVec 1 :=
  let c1_i32_3 : BitVec 32 := 1#32
  let v15 : BitVec 1 := Scalar.cmpi .eq v1 c1_i32_3
  let v16 : BitVec 32 := Scalar.extui v15
  let c0_i32_4 : BitVec 32 := 0#32
  let v17 : BitVec 1 := Scalar.cmpi .ne v16 c0_i32_4
  v17

def k0_cond5 (v1 : BitVec 32) : BitVec 1 :=
  let c2_i32 : BitVec 32 := 2#32
  let v18 : BitVec 1 := Scalar.cmpi .eq v1 c2_i32
  let v19 : BitVec 32 := Scalar.extui v18
  let c0_i32_5 : BitVec 32 := 0#32
  let v20 : BitVec 1 := Scalar.cmpi .ne v19 c0_i32_5
  v20

def k0_cond6 (v1 : BitVec 32) : BitVec 1 :=
  let c3_i32 : BitVec 32 := 3#32
  let v21 : BitVec 1 := Scalar.cmpi .eq v1 c3_i32
  let v22 : BitVec 32 := Scalar.extui v21
  let c0_i32_6 : BitVec 32 := 0#32
  let v23 : BitVec 1 := Scalar.cmpi .ne v22 c0_i32_6
  v23

def k0_cond7 (v1 : BitVec 32) : BitVec 1 :=
  let c4_i32 : BitVec 32 := 4#32
  let v24 : BitVec 1 := Scalar.cmpi .eq v1 c4_i32
  let v25 : BitVec 32 := Scalar.extui v24
  let c0_i32_7 : BitVec 32 := 0#32
  let v26 : BitVec 1 := Scalar.cmpi .ne v25 c0_i32_7
  v26

def k0_cond8 (v1 : BitVec 32) : BitVec 1 :=
  let c0_i32_8 : BitVec 32 := 0#32
  let v27 : BitVec 1 := Scalar.cmpi .eq v1 c0_i32_8
  let v28 : BitVec 32 := Scalar.extui v27
  let c0_i32_9 : BitVec 32 := 0#32
  let v29 : BitVec 1 := Scalar.cmpi .ne v28 c0_i32_9
  v29

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 2 (Rect.unit (s := S1) ![0] S1.size inb_S1_S1_0) numel1_S1
  let v1 : BitVec 32 := Scalar.minsi arg0 v0
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S128.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S128) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off1_inb : ∀ i : grid0.Coords, ∀ a, (k0_off1 i) a + S1.size a ≤ S128.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S128) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S128 : Shape := ⟨1, ![128]⟩
abbrev S1 : Shape := ⟨1, ![1]⟩
abbrev S65536x8x128 : Shape := ⟨3, ![65536, 8, 128]⟩
abbrev S4x32x1024x2048 : Shape := ⟨4, ![4, 32, 1024, 2048]⟩
abbrev S4x32x2048 : Shape := ⟨3, ![4, 32, 2048]⟩
abbrev S4x32x1024x1024 : Shape := ⟨4, ![4, 32, 1024, 1024]⟩
abbrev S4x32x1024 : Shape := ⟨3, ![4, 32, 1024]⟩
abbrev S128x512x1024 : Shape := ⟨3, ![128, 512, 1024]⟩
abbrev S1x32x1024x2048 : Shape := ⟨4, ![1, 32, 1024, 2048]⟩
abbrev S32x1024x2048 : Shape := ⟨3, ![32, 1024, 2048]⟩
abbrev S_ : Shape := ⟨0, ![]⟩
abbrev S128x1 : Shape := ⟨2, ![128, 1]⟩
abbrev S128x1024x2048 : Shape := ⟨3, ![128, 1024, 2048]⟩
abbrev S128x512x2048 : Shape := ⟨3, ![128, 512, 2048]⟩
abbrev S1x32x2048 : Shape := ⟨3, ![1, 32, 2048]⟩
abbrev S32x2048 : Shape := ⟨2, ![32, 2048]⟩
abbrev S128x2048 : Shape := ⟨2, ![128, 2048]⟩
abbrev S128x1x2048 : Shape := ⟨3, ![128, 1, 2048]⟩
abbrev S1x32x1024x1024 : Shape := ⟨4, ![1, 32, 1024, 1024]⟩
abbrev S32x1024x1024 : Shape := ⟨3, ![32, 1024, 1024]⟩
abbrev S128x1024x1024 : Shape := ⟨3, ![128, 1024, 1024]⟩
abbrev S1x32x1024 : Shape := ⟨3, ![1, 32, 1024]⟩
abbrev S32x1024 : Shape := ⟨2, ![32, 1024]⟩
abbrev S128x1024 : Shape := ⟨2, ![128, 1024]⟩
abbrev S128x1x1024 : Shape := ⟨3, ![128, 1, 1024]⟩
abbrev S512 : Shape := ⟨1, ![512]⟩
abbrev S1x512 : Shape := ⟨2, ![1, 512]⟩
abbrev S128x512 : Shape := ⟨2, ![128, 512]⟩
abbrev S128x512x1 : Shape := ⟨3, ![128, 512, 1]⟩

abbrev nBuf : Space → Nat
  | .hbm => 108
  | .vmem => 0
  | .smem => 0
  | _ => 0

abbrev bufTy : (tb : Table) → Fin (tcTables nBuf tb) → BufTy
  | .hbm, ⟨0, _⟩ => ⟨S128, .i32⟩
  | .hbm, ⟨1, _⟩ => ⟨S128, .i32⟩
  | .hbm, ⟨2, _⟩ => ⟨S1, .i32⟩
  | .hbm, ⟨3, _⟩ => ⟨S128, .i32⟩
  | .hbm, ⟨4, _⟩ => ⟨S128, .i32⟩
  | .hbm, ⟨5, _⟩ => ⟨S65536x8x128, .f32⟩
  | .hbm, ⟨6, _⟩ => ⟨S4x32x1024x2048, .f32⟩
  | .hbm, ⟨7, _⟩ => ⟨S4x32x2048, .f32⟩
  | .hbm, ⟨8, _⟩ => ⟨S4x32x1024x1024, .f32⟩
  | .hbm, ⟨9, _⟩ => ⟨S4x32x1024, .f32⟩
  | .hbm, ⟨10, _⟩ => ⟨S128x512x1024, .f32⟩
  | .hbm, ⟨11, _⟩ => ⟨S1x32x1024x2048, .f32⟩
  | .hbm, ⟨12, _⟩ => ⟨S32x1024x2048, .f32⟩
  | .hbm, ⟨13, _⟩ => ⟨S_, .i32⟩
  | .hbm, ⟨14, _⟩ => ⟨S128, .i32⟩
  | .hbm, ⟨15, _⟩ => ⟨S128, .i1⟩
  | .hbm, ⟨16, _⟩ => ⟨S_, .i32⟩
  | .hbm, ⟨17, _⟩ => ⟨S128, .i32⟩
  | .hbm, ⟨18, _⟩ => ⟨S128, .i32⟩
  | .hbm, ⟨19, _⟩ => ⟨S128, .i32⟩
  | .hbm, ⟨20, _⟩ => ⟨S128x1, .i32⟩
  | .hbm, ⟨21, _⟩ => ⟨S128x1024x2048, .f32⟩
  | .hbm, ⟨22, _⟩ => ⟨S128x512x2048, .f32⟩
  | .hbm, ⟨23, _⟩ => ⟨S1x32x2048, .f32⟩
  | .hbm, ⟨24, _⟩ => ⟨S32x2048, .f32⟩
  | .hbm, ⟨25, _⟩ => ⟨S_, .i32⟩
  | .hbm, ⟨26, _⟩ => ⟨S128, .i32⟩
  | .hbm, ⟨27, _⟩ => ⟨S128, .i1⟩
  | .hbm, ⟨28, _⟩ => ⟨S_, .i32⟩
  | .hbm, ⟨29, _⟩ => ⟨S128, .i32⟩
  | .hbm, ⟨30, _⟩ => ⟨S128, .i32⟩
  | .hbm, ⟨31, _⟩ => ⟨S128, .i32⟩
  | .hbm, ⟨32, _⟩ => ⟨S128x1, .i32⟩
  | .hbm, ⟨33, _⟩ => ⟨S128x2048, .f32⟩
  | .hbm, ⟨34, _⟩ => ⟨S128x1x2048, .f32⟩
  | .hbm, ⟨35, _⟩ => ⟨S128x512x2048, .f32⟩
  | .hbm, ⟨36, _⟩ => ⟨S128x512x2048, .f32⟩
  | .hbm, ⟨37, _⟩ => ⟨S128x512x1024, .f32⟩
  | .hbm, ⟨38, _⟩ => ⟨S128x512x1024, .f32⟩
  | .hbm, ⟨39, _⟩ => ⟨S_, .f32⟩
  | .hbm, ⟨40, _⟩ => ⟨S128x512x1024, .f32⟩
  | .hbm, ⟨41, _⟩ => ⟨S128x512x1024, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S128x512x1024, .f32⟩
  | .hbm, ⟨46, _⟩ => ⟨S128x512x1024, .f32⟩
  | .hbm, ⟨47, _⟩ => ⟨S_, .f32⟩
  | .hbm, ⟨48, _⟩ => ⟨S128x512x1024, .f32⟩
  | .hbm, ⟨49, _⟩ => ⟨S128x512x1024, .f32⟩
  | .hbm, ⟨50, _⟩ => ⟨S_, .f32⟩
  | .hbm, ⟨51, _⟩ => ⟨S128x512x1024, .f32⟩
  | .hbm, ⟨52, _⟩ => ⟨S128x512x1024, .f32⟩
  | .hbm, ⟨53, _⟩ => ⟨S_, .f32⟩
  | .hbm, ⟨54, _⟩ => ⟨S128x512x1024, .f32⟩
  | .hbm, ⟨55, _⟩ => ⟨S128x512x1024, .f32⟩
  | .hbm, ⟨56, _⟩ => ⟨S128x512x1024, .f32⟩
  | .hbm, ⟨57, _⟩ => ⟨S128x512x1024, .f32⟩
  | .hbm, ⟨58, _⟩ => ⟨S_, .f32⟩
  | .hbm, ⟨59, _⟩ => ⟨S128x512x1024, .f32⟩
  | .hbm, ⟨60, _⟩ => ⟨S128x512x1024, .f32⟩
  | .hbm, ⟨61, _⟩ => ⟨S_, .f32⟩
  | .hbm, ⟨62, _⟩ => ⟨S128x512x1024, .f32⟩
  | .hbm, ⟨63, _⟩ => ⟨S128x512x1024, .f32⟩
  | .hbm, ⟨64, _⟩ => ⟨S128x512x1024, .f32⟩
  | .hbm, ⟨65, _⟩ => ⟨S128x512x1024, .f32⟩
  | .hbm, ⟨66, _⟩ => ⟨S1x32x1024x1024, .f32⟩
  | .hbm, ⟨67, _⟩ => ⟨S32x1024x1024, .f32⟩
  | .hbm, ⟨68, _⟩ => ⟨S_, .i32⟩
  | .hbm, ⟨69, _⟩ => ⟨S128, .i32⟩
  | .hbm, ⟨70, _⟩ => ⟨S128, .i1⟩
  | .hbm, ⟨71, _⟩ => ⟨S_, .i32⟩
  | .hbm, ⟨72, _⟩ => ⟨S128, .i32⟩
  | .hbm, ⟨73, _⟩ => ⟨S128, .i32⟩
  | .hbm, ⟨74, _⟩ => ⟨S128, .i32⟩
  | .hbm, ⟨75, _⟩ => ⟨S128x1, .i32⟩
  | .hbm, ⟨76, _⟩ => ⟨S128x1024x1024, .f32⟩
  | .hbm, ⟨77, _⟩ => ⟨S128x512x1024, .f32⟩
  | .hbm, ⟨78, _⟩ => ⟨S1x32x1024, .f32⟩
  | .hbm, ⟨79, _⟩ => ⟨S32x1024, .f32⟩
  | .hbm, ⟨80, _⟩ => ⟨S_, .i32⟩
  | .hbm, ⟨81, _⟩ => ⟨S128, .i32⟩
  | .hbm, ⟨82, _⟩ => ⟨S128, .i1⟩
  | .hbm, ⟨83, _⟩ => ⟨S_, .i32⟩
  | .hbm, ⟨84, _⟩ => ⟨S128, .i32⟩
  | .hbm, ⟨85, _⟩ => ⟨S128, .i32⟩
  | .hbm, ⟨86, _⟩ => ⟨S128, .i32⟩
  | .hbm, ⟨87, _⟩ => ⟨S128x1, .i32⟩
  | .hbm, ⟨88, _⟩ => ⟨S128x1024, .f32⟩
  | .hbm, ⟨89, _⟩ => ⟨S128x1x1024, .f32⟩
  | .hbm, ⟨90, _⟩ => ⟨S128x512x1024, .f32⟩
  | .hbm, ⟨91, _⟩ => ⟨S128x512x1024, .f32⟩
  | .hbm, ⟨92, _⟩ => ⟨S512, .i32⟩
  | .hbm, ⟨93, _⟩ => ⟨S1x512, .i32⟩
  | .hbm, ⟨94, _⟩ => ⟨S128x1, .i32⟩
  | .hbm, ⟨95, _⟩ => ⟨S_, .i32⟩
  | .hbm, ⟨96, _⟩ => ⟨S128x1, .i32⟩
  | .hbm, ⟨97, _⟩ => ⟨S128x1, .i32⟩
  | .hbm, ⟨98, _⟩ => ⟨S128x512, .i32⟩
  | .hbm, ⟨99, _⟩ => ⟨S128x512, .i32⟩
  | .hbm, ⟨100, _⟩ => ⟨S128x512, .i1⟩
  | .hbm, ⟨101, _⟩ => ⟨S128x512x1, .i1⟩
  | .hbm, ⟨102, _⟩ => ⟨S_, .f32⟩
  | .hbm, ⟨103, _⟩ => ⟨S_, .f32⟩
  | .hbm, ⟨104, _⟩ => ⟨S128x512x1024, .i1⟩
  | .hbm, ⟨105, _⟩ => ⟨S128x512x1024, .f32⟩
  | .hbm, ⟨106, _⟩ => ⟨S128x512x1024, .f32⟩
  | .hbm, ⟨107, _⟩ => ⟨S65536x8x128, .f32⟩
  | _, _ => ⟨S128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_v3 : Ref sig .tc := ⟨.hbm, 14, rfl⟩
abbrev main_v4 : Ref sig .tc := ⟨.hbm, 15, rfl⟩
abbrev main_c_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_1 : Ref sig .tc := ⟨.hbm, 25, rfl⟩
abbrev main_v13 : Ref sig .tc := ⟨.hbm, 26, rfl⟩
abbrev main_v14 : Ref sig .tc := ⟨.hbm, 27, rfl⟩
abbrev main_c_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_cst_4 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_v27 : Ref sig .tc := ⟨.hbm, 49, rfl⟩
abbrev main_cst_5 : Ref sig .tc := ⟨.hbm, 50, rfl⟩
abbrev main_v28 : Ref sig .tc := ⟨.hbm, 51, rfl⟩
abbrev main_v29 : Ref sig .tc := ⟨.hbm, 52, rfl⟩
abbrev main_cst_6 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_7 : Ref sig .tc := ⟨.hbm, 58, rfl⟩
abbrev main_v34 : Ref sig .tc := ⟨.hbm, 59, rfl⟩
abbrev main_v35 : Ref sig .tc := ⟨.hbm, 60, rfl⟩
abbrev main_cst_8 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_c_9 : Ref sig .tc := ⟨.hbm, 68, rfl⟩
abbrev main_v42 : Ref sig .tc := ⟨.hbm, 69, rfl⟩
abbrev main_v43 : Ref sig .tc := ⟨.hbm, 70, rfl⟩
abbrev main_c_10 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_c_11 : Ref sig .tc := ⟨.hbm, 80, rfl⟩
abbrev main_v52 : Ref sig .tc := ⟨.hbm, 81, rfl⟩
abbrev main_v53 : Ref sig .tc := ⟨.hbm, 82, rfl⟩
abbrev main_c_12 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_c_13 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_cst_14 : Ref sig .tc := ⟨.hbm, 102, rfl⟩
abbrev main_call1_v0 : Ref sig .tc := ⟨.hbm, 103, rfl⟩
abbrev main_call1_v1 : Ref sig .tc := ⟨.hbm, 104, rfl⟩
abbrev main_call1_v2 : Ref sig .tc := ⟨.hbm, 105, rfl⟩
abbrev main_v71 : Ref sig .tc := ⟨.hbm, 106, rfl⟩
abbrev main_v72 : Ref sig .tc := ⟨.hbm, 107, rfl⟩

abbrev nD : Nat := 1
abbrev τ : Topo := Topo.v7x

variable {F : FTy → Type} [FloatOps F]
-- ==== Proof.Softmax.lean ====
/- The softmax average over the extended reals: dividing each weight by the total and then averaging is averaging and
   then dividing, and an average over a longer list of keys may be taken in two groups under one common maximum. -/
module

public import Idealize.ShloMosaic.PureOps.Ideal

@[expose] public section

noncomputable section

namespace Cert.Softmax

open Idealize.ShloMosaic

/-- The word of −∞ is `⊥`. -/
theorem word_bot : Ideal.ofBits .f32 4286578688#32 = (⊥ : EReal) := by simp [Ideal.ofBits, Ideal.ieee]

/-- The word of +∞ is `⊤`. -/
theorem word_top : Ideal.ofBits .f32 2139095040#32 = (⊤ : EReal) := by simp [Ideal.ofBits, Ideal.ieee]

/-- The word of 96 is 96. -/
theorem word_96 : Ideal.ofBits .f32 1119879168#32 = ((96 : ℝ) : EReal) := by
  simp [Ideal.ofBits, Ideal.ieee, -EReal.coe_mul]; norm_num

/-- `x` is a real number: neither of the two infinities. -/
def Real' (x : EReal) : Prop := ∃ r : ℝ, x = (r : EReal)

theorem Real'.mul {x y : EReal} (hx : Real' x) (hy : Real' y) : Real' (x * y) := by
  obtain ⟨a, rfl⟩ := hx
  obtain ⟨b, rfl⟩ := hy
  exact ⟨a * b, (EReal.coe_mul a b).symm⟩

theorem Real'.sum {ι : Type*} (S : Finset ι) {f : ι → EReal} (h : ∀ i, Real' (f i)) : Real' (∑ i ∈ S, f i) := by
  classical
  induction S using Finset.induction_on with
  | empty => exact ⟨0, by simp⟩
  | insert i S hi ih =>
    obtain ⟨a, ha⟩ := h i
    obtain ⟨b, hb⟩ := ih
    exact ⟨a + b, by rw [Finset.sum_insert hi, ha, hb, EReal.coe_add]⟩

/-- What is below `⊤` in absolute value is a real number. -/
theorem real_of_abs_lt {x : EReal} (h : max x (-x) < ⊤) : Real' x := by
  induction x with
  | bot => simp at h
  | top => simp at h
  | coe r => exact ⟨r, rfl⟩

/-- A real factor that is not negative distributes over a finite sum of any extended reals. -/
theorem sum_mul_real {ι : Type*} (S : Finset ι) (f : ι → EReal) {r : ℝ} (hr : 0 ≤ r) :
    (∑ i ∈ S, f i) * (r : EReal) = ∑ i ∈ S, f i * (r : EReal) := by
  classical
  induction S using Finset.induction_on with
  | empty => simp
  | insert i S hi ih =>
    rw [Finset.sum_insert hi, Finset.sum_insert hi,
      EReal.right_distrib_of_nonneg_of_ne_top (EReal.coe_nonneg.2 hr) (EReal.coe_ne_top r), ih]

/-- A sum of reals is the sum of them as extended reals. -/
theorem coe_sum {ι : Type*} (S : Finset ι) (f : ι → ℝ) : ((∑ i ∈ S, f i : ℝ) : EReal) = ∑ i ∈ S, (f i : EReal) := by
  classical
  induction S using Finset.induction_on with
  | empty => simp
  | insert i S hi ih => rw [Finset.sum_insert hi, Finset.sum_insert hi, EReal.coe_add, ih]

/-- Division by a positive real is multiplication by its inverse. -/
theorem div_real (x : EReal) {r : ℝ} (hr : 0 < r) : Ideal.div x (r : EReal) = x * ((r⁻¹ : ℝ) : EReal) := by
  have h : (r : EReal) ≠ 0 := by simpa using hr.ne'
  rw [Ideal.div, if_neg h, EReal.coe_inv]

/-- The greatest of finitely many scores, `⊥` of none. -/
def top {ι : Type*} [Fintype ι] (s : ι → EReal) : EReal := Finset.univ.fold max ⊥ s

theorem top_eq_sup {ι : Type*} [Fintype ι] (s : ι → EReal) : top s = Finset.univ.sup s := rfl

theorem top_real {ι : Type*} [Fintype ι] [Nonempty ι] {s : ι → EReal} (h : ∀ i, Real' (s i)) : Real' (top s) := by
  obtain ⟨i, -, hi⟩ := Finset.exists_mem_eq_sup Finset.univ Finset.univ_nonempty s
  rw [top_eq_sup, hi]
  exact h i

/-- The greatest over two groups is the greater of the two groups' greatest. -/
theorem top_split {a b n : ℕ} (hn : n = a + b) (s : Fin n → EReal) :
    top s = max (top fun j : Fin b => s ⟨a + j.val, by omega⟩) (top fun j : Fin a => s ⟨j.val, by omega⟩) := by
  simp only [top_eq_sup]
  apply le_antisymm
  · refine Finset.sup_le fun i _ => ?_
    by_cases hi : i.val < a
    · exact le_max_of_le_right (Finset.le_sup (f := fun j : Fin a => s ⟨j.val, by omega⟩) (Finset.mem_univ ⟨i.val, hi⟩))
    · refine le_max_of_le_left ?_
      have h := Finset.le_sup (f := fun j : Fin b => s ⟨a + j.val, by omega⟩) (Finset.mem_univ ⟨i.val - a, by omega⟩)
      have e : (⟨a + (i.val - a), by omega⟩ : Fin n) = i := Fin.ext (by simp; omega)
      simpa [e] using h
  · exact max_le (Finset.sup_le fun j _ => Finset.le_sup (Finset.mem_univ _))
      (Finset.sup_le fun j _ => Finset.le_sup (Finset.mem_univ _))

/-- A sum over two groups, the second first. -/
theorem sum_split {a b n : ℕ} (hn : n = a + b) (f : Fin n → EReal) :
    ∑ j, f j = (∑ j : Fin b, f ⟨a + j.val, by omega⟩) + ∑ j : Fin a, f ⟨j.val, by omega⟩ := by
  subst hn
  rw [Fin.sum_univ_add, add_comm]
  rfl

/-- The average of the values `v` by the exponentials of the scores `s`, taken from the greatest score, the total
    divided out at the end. -/
def average {ι : Type*} [Fintype ι] (s v : ι → EReal) : EReal :=
  Ideal.div (∑ j, Ideal.exp (s j - top s) * v j) (∑ j, Ideal.exp (s j - top s))

/-- Of scores that are real the total of the exponentials is a positive real. -/
theorem total_pos {ι : Type*} [Fintype ι] [Nonempty ι] {s : ι → EReal} (h : ∀ i, Real' (s i)) :
    ∃ l : ℝ, 0 < l ∧ ∑ j, Ideal.exp (s j - top s) = (l : EReal) := by
  obtain ⟨M, hM⟩ := top_real h
  choose r hr using h
  refine ⟨∑ j, Real.exp (r j - M), Finset.sum_pos (fun j _ => Real.exp_pos _) Finset.univ_nonempty, ?_⟩
  rw [hM, coe_sum]
  refine Finset.sum_congr rfl fun j _ => ?_
  rw [hr j, ← EReal.coe_sub]
  rfl

/-- The softmax with every weight divided by the total and then multiplied with its value is the average. -/
theorem softmax_eq_average {ι : Type*} [Fintype ι] [Nonempty ι] {s : ι → EReal} (h : ∀ i, Real' (s i)) (v : ι → EReal) :
    ∑ j, v j * Ideal.div (Ideal.exp (s j - max ⊥ (top s))) (∑ j, Ideal.exp (s j - max ⊥ (top s))) = average s v := by
  rw [max_eq_right bot_le, average]
  obtain ⟨l, hl, e⟩ := total_pos h
  rw [e, div_real _ hl, sum_mul_real _ _ (inv_nonneg.2 hl.le)]
  refine Finset.sum_congr rfl fun j _ => ?_
  rw [div_real _ hl, mul_comm, mul_right_comm]

/-- The average over two groups of keys, taken from one common maximum: the values' sums and the totals are added. -/
theorem average_split {a b n : ℕ} (hn : n = a + b) (s v : Fin n → EReal) (s₁ v₁ : Fin b → EReal) (s₂ v₂ : Fin a → EReal)
    (hs₁ : ∀ j, s ⟨a + j.val, by omega⟩ = s₁ j) (hv₁ : ∀ j, v ⟨a + j.val, by omega⟩ = v₁ j)
    (hs₂ : ∀ j, s ⟨j.val, by omega⟩ = s₂ j) (hv₂ : ∀ j, v ⟨j.val, by omega⟩ = v₂ j) :
    average s v = Ideal.div
      ((∑ j, Ideal.exp (s₁ j - max (top s₁) (top s₂)) * v₁ j) + ∑ j, Ideal.exp (s₂ j - max (top s₁) (top s₂)) * v₂ j)
      ((∑ j, Ideal.exp (s₁ j - max (top s₁) (top s₂))) + ∑ j, Ideal.exp (s₂ j - max (top s₁) (top s₂))) := by
  unfold average
  rw [sum_split hn, sum_split hn (fun j => Ideal.exp (s j - top s)), top_split hn]
  simp only [hs₁, hv₁, hs₂, hv₂]

end Cert.Softmax

end
-- ==== Proof.Heads.lean ====
/- What one grid point of the latent attention writes: every head's average of its values over the denoising keys and the
   cached keys, two heads to one tile of 128 lanes. -/
module

public import proofs.«01_k».proof.Proof.Gen.KernelIdeal.Value
public import proofs.«01_k».proof.Proof.Softmax
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.KernelIdeal.Att

open Cert.KernelIdeal Cert.KernelIdeal.Gen Cert.Softmax

/-- The scale of the scores, named. -/
abbrev scale : EReal := Named.named (F := Ideal) (φ := .f32) κ "scale" 1037108716#32

/-- The average over two groups of keys from one common maximum, as the kernel takes it. -/
def twoGroups {a b : ℕ} (s₁ v₁ : Fin a → EReal) (s₂ v₂ : Fin b → EReal) : EReal :=
  Ideal.div
    ((∑ j, Ideal.exp (s₁ j - max (top s₁) (top s₂)) * v₁ j) + ∑ j, Ideal.exp (s₂ j - max (top s₁) (top s₂)) * v₂ j)
    ((∑ j, Ideal.exp (s₁ j - max (top s₁) (top s₂))) + ∑ j, Ideal.exp (s₂ j - max (top s₁) (top s₂)))

set_option maxHeartbeats 1600000 in
/-- One head: row `r` of its queries against all of its keys, lane `l` of its values. -/
theorem head_at (k v : Vec Ideal S1024x128 .bf16) (kc vc : Vec Ideal S256x128 .bf16) (q : Vec Ideal S512x128 .bf16)
    (r : Fin 512) (l : Fin 128) :
    k0_pay3 (F := Ideal) k v kc vc q (ix2 r l)
      = twoGroups (fun j : Fin 1024 => (∑ d : Fin 128, q (ix2 r d) * k (ix2 j d)) * scale) (fun j => v (ix2 j l))
          (fun j : Fin 256 => (∑ d : Fin 128, q (ix2 r d) * kc (ix2 j d)) * scale) (fun j => vc (ix2 j l)) := by
  pointwise [k0_pay3]
  rw [word_bot]
  rfl

/-- Two heads in one tile: the first head's values, turned into the lower lanes, and the second's in the upper. -/
def joined (e o : FVec Ideal S512x128 .f32) : FVec Ideal S512x128 .bf16 :=
  truncf .bf16 (select k0_pay2 (dynamicRotate 1 64#32 none e rotates_S512x128_d1) o) bitsLt_bf16_f32

/-- A stored tile is two heads joined. -/
theorem tile_eq (x0 : Vec Ideal S512x1024 .bf16) (x1 x2 : Vec Ideal S1024x1024 .bf16) (x3 x4 : Vec Ideal S256x1024 .bf16)
    (e : FVec Ideal S512x128 .f32) (k v : Vec Ideal S1024x128 .bf16) (kc vc : Vec Ideal S256x128 .bf16)
    (q : Vec Ideal S512x128 .bf16) :
    k0_pay4 (F := Ideal) (k0_pay10 x0 x1 x2 x3 x4) e k v kc vc q = joined e (k0_pay3 k v kc vc q) := rfl

theorem joined_at (e o : FVec Ideal S512x128 .f32) (r : Fin 512) (l : Fin 128) :
    joined e o (ix2 r l)
      = (if l.val < 64 then e (ix2 r ⟨64 + l.val % 64, by omega⟩) else o (ix2 r ⟨64 + l.val % 64, by omega⟩) : EReal) := by
  pointwise [joined, k0_pay2]
  have hl := l.isLt
  have hc : (IntOp.cmpi CmpIPredicate.slt (BitVec.ofNat 32 l.val) 64#32) = if l.val < 64 then 1#1 else 0#1 := by
    revert l; decide
  by_cases h : l.val < 64
  · rw [if_pos h] at hc
    rw [if_pos h, hc]
    exact (if_pos rfl).trans (congrArg e (congrArg (ix2 r) (Fin.ext (by simp only []; omega))))
  · rw [if_neg h] at hc
    rw [if_neg h, hc]
    exact (if_neg (by decide)).trans (congrArg o (congrArg (ix2 r) (Fin.ext (by simp only []; omega))))

/-- What a grid point computes at row `r` and column `y` of its block: the head of the column, its lane of the values. -/
def blockAt (q : Vec Ideal S512x1024 .bf16) (k v : Vec Ideal S1024x1024 .bf16) (kc vc : Vec Ideal S256x1024 .bf16)
    (r : Fin 512) (y : Fin 512) : EReal :=
  twoGroups
    (fun j : Fin 1024 => (∑ d : Fin 128, q (ix2 r ⟨y.val / 64 * 128 + d.val, by omega⟩)
      * k (ix2 j ⟨y.val / 64 * 128 + d.val, by omega⟩)) * scale)
    (fun j => v (ix2 j ⟨y.val / 64 * 128 + (64 + y.val % 64), by omega⟩))
    (fun j : Fin 256 => (∑ d : Fin 128, q (ix2 r ⟨y.val / 64 * 128 + d.val, by omega⟩)
      * kc (ix2 j ⟨y.val / 64 * 128 + d.val, by omega⟩)) * scale)
    (fun j => vc (ix2 j ⟨y.val / 64 * 128 + (64 + y.val % 64), by omega⟩))

/-- A head's slices of the blocks: the 128 columns from `o` on. -/
structure Slices (o : ℕ) (q : Vec Ideal S512x1024 .bf16) (k v : Vec Ideal S1024x1024 .bf16)
    (kc vc : Vec Ideal S256x1024 .bf16) (q' : Vec Ideal S512x128 .bf16) (k' v' : Vec Ideal S1024x128 .bf16)
    (kc' vc' : Vec Ideal S256x128 .bf16) : Prop where
  le : o + 128 ≤ 1024
  q : ∀ r d, q' (ix2 r d) = q (ix2 r ⟨o + d.val, by omega⟩)
  k : ∀ r d, k' (ix2 r d) = k (ix2 r ⟨o + d.val, by omega⟩)
  v : ∀ r d, v' (ix2 r d) = v (ix2 r ⟨o + d.val, by omega⟩)
  kc : ∀ r d, kc' (ix2 r d) = kc (ix2 r ⟨o + d.val, by omega⟩)
  vc : ∀ r d, vc' (ix2 r d) = vc (ix2 r ⟨o + d.val, by omega⟩)

variable {q : Vec Ideal S512x1024 .bf16} {k v : Vec Ideal S1024x1024 .bf16} {kc vc : Vec Ideal S256x1024 .bf16}

/-- A head on its slices is that head of the block. -/
theorem head_slices {o : ℕ} {q' k' v' kc' vc'} (h : Slices o q k v kc vc q' k' v' kc' vc') (r : Fin 512) (l : Fin 64)
    (y : Fin 512) (ho : y.val / 64 * 128 = o) (hl : y.val % 64 = l.val) :
    k0_pay3 (F := Ideal) k' v' kc' vc' q' (ix2 r ⟨64 + l.val, by omega⟩) = blockAt q k v kc vc r y := by
  subst ho
  rw [head_at, blockAt]
  simp only [h.q, h.k, h.v, h.kc, h.vc, hl]

/-- A tile on its slices is those two heads of the block. -/
theorem tile_slices {o : ℕ} {q' k' v' kc' vc' q'' k'' v'' kc'' vc''} (h : Slices o q k v kc vc q' k' v' kc' vc')
    (h' : Slices (o + 128) q k v kc vc q'' k'' v'' kc'' vc'') (x0 : Vec Ideal S512x1024 .bf16)
    (x1 x2 : Vec Ideal S1024x1024 .bf16) (x3 x4 : Vec Ideal S256x1024 .bf16) (r : Fin 512) (l : Fin 128)
    (y : Fin 512) (hy : 2 * y.val = o + 2 * l.val) (ho : o % 256 = 0) :
    k0_pay4 (F := Ideal) (k0_pay10 x0 x1 x2 x3 x4) (k0_pay3 k' v' kc' vc' q') k'' v'' kc'' vc'' q'' (ix2 r l)
      = blockAt q k v kc vc r y := by
  rw [tile_eq, joined_at]
  have hl := l.isLt
  split
  · exact head_slices h r ⟨l.val % 64, by omega⟩ y (by omega) (by simp only []; omega)
  · exact head_slices h' r ⟨l.val % 64, by omega⟩ y (by omega) (by simp only []; omega)

end Cert.KernelIdeal.Att

end
-- ==== Proof.Array.lean ====
/- The array that the latent attention leaves: every block is what its grid point computed from the blocks of the
   arguments that the point reads. -/
module

public import proofs.«01_k».proof.Proof.Heads

@[expose] public section

set_option maxRecDepth 16384

noncomputable section

open Idealize.ShloMosaic Idealize.ShloMosaic.TcCoe Idealize.SL.Sem

namespace Cert.KernelIdeal.Att

open Cert.KernelIdeal Cert.KernelIdeal.Gen Cert.Softmax

/-- Loading the columns from `o` on of a block. -/
theorem ld_at {a : ℕ} {φ : EltTy} (x : Vec Ideal ⟨2, ![a, 1024]⟩ φ) (o : ℕ) (ho : o + 128 ≤ 1024) (h) (r : Fin a)
    (d : Fin 128) :
    View.ld x (Rect.unit (s := ⟨2, ![a, 1024]⟩) ![0, o] ![a, 128] h) (ix2 r d) = x (ix2 r ⟨o + d.val, by omega⟩) := by
  refine congrArg x (funext fun a => Fin.ext ?_)
  match a with
  | ⟨0, _⟩ => exact (congrArg (0 + ·) (Nat.one_mul r.val)).trans (Nat.zero_add _)
  | ⟨1, _⟩ => exact congrArg (o + ·) (Nat.one_mul d.val)

/-- The slices that the kernel loads for the head of columns `o` on. -/
theorem slices (q : Vec Ideal S512x1024 .bf16) (k v : Vec Ideal S1024x1024 .bf16) (kc vc : Vec Ideal S256x1024 .bf16)
    (o : ℕ) (ho : o + 128 ≤ 1024) (h₁ h₂ h₃) :
    Slices o q k v kc vc (View.ld q (Rect.unit (s := S512x1024) ![0, o] S512x128.size h₁))
      (View.ld k (Rect.unit (s := S1024x1024) ![0, o] S1024x128.size h₂))
      (View.ld v (Rect.unit (s := S1024x1024) ![0, o] S1024x128.size h₂))
      (View.ld kc (Rect.unit (s := S256x1024) ![0, o] S256x128.size h₃))
      (View.ld vc (Rect.unit (s := S256x1024) ![0, o] S256x128.size h₃)) where
  le := ho
  q := ld_at q o ho h₁
  k := ld_at k o ho h₂
  v := ld_at v o ho h₂
  kc := ld_at kc o ho h₃
  vc := ld_at vc o ho h₃

/-- The four tiles of a block together: the block's entry at any row and column. -/
theorem block_eq (q : Vec Ideal S512x1024 .bf16) (k v : Vec Ideal S1024x1024 .bf16) (kc vc : Vec Ideal S256x1024 .bf16)
    (y : S512x512.Idx) : out0_5 (F := Ideal) q k v kc vc y = blockAt q k v kc vc (y 0) (y 1) := by
  have tile (o : ℕ) (ho : o + 128 + 128 ≤ 1024) (ho' : o % 256 = 0) (h₁ h₂ h₃ h₁' h₂' h₃') (x : S512x128.Idx)
      (h0 : (y 0 : ℕ) = x 0) (h1 : 2 * (y 1 : ℕ) = o + 2 * x 1) :=
    (congrArg _ (show x = ix2 (x 0) (x 1) from by idx_vars x; rfl)).trans
      ((tile_slices (slices q k v kc vc o (by omega) h₁ h₂ h₃) (slices q k v kc vc (o + 128) ho h₁' h₂' h₃')
        q k v kc vc (x 0) (x 1) (y 1) h1 ho').trans
          (congrArg (fun r => blockAt q k v kc vc r (y 1)) (Fin.ext h0.symm : (x 0 : Fin 512) = y 0)))
  unfold out0_5
  canon_tiles x h
  case piece0 => exact tile 768 (by omega) (by omega) _ _ _ _ _ _ x h0 (by omega)
  case piece1 => exact tile 512 (by omega) (by omega) _ _ _ _ _ _ x h0 (by omega)
  case piece2 => exact tile 256 (by omega) (by omega) _ _ _ _ _ _ x h0 (by omega)
  case piece3 => exact tile 0 (by omega) (by omega) _ _ _ _ _ _ x h0 (by omega)

/-- Which blocks grid point `t` stages: its 512 queries, its request's denoising keys and values, its request's cache. -/
theorem idx : ∀ t : Fin cfg0.N, win0_0.index t = ![16 + t.val, 0] ∧ win0_1.index t = ![8 + t.val / 2, 0]
    ∧ win0_2.index t = ![8 + t.val / 2, 0] ∧ win0_3.index t = ![t.val / 2, 0] ∧ win0_4.index t = ![t.val / 2, 0]
    ∧ win0_5.index t = ![t.val, 0] :=
  (by decide +kernel : ∀ t : Fin grid0.N, _)

/-- The whole result at row `r` and column `y`, of the whole arguments. -/
def arrayAt (q k v : Vec Ideal S12288x1024 .bf16) (kc vc : Vec Ideal S1024x1024 .bf16) (r : Fin 4096) (y : Fin 512) :
    EReal :=
  twoGroups
    (fun j : Fin 1024 => (∑ d : Fin 128, q (ix2 ⟨8192 + r.val, by omega⟩ ⟨y.val / 64 * 128 + d.val, by omega⟩)
      * k (ix2 ⟨8192 + (r.val / 1024 * 1024 + j.val), by omega⟩ ⟨y.val / 64 * 128 + d.val, by omega⟩)) * scale)
    (fun j => v (ix2 ⟨8192 + (r.val / 1024 * 1024 + j.val), by omega⟩ ⟨y.val / 64 * 128 + (64 + y.val % 64), by omega⟩))
    (fun j : Fin 256 => (∑ d : Fin 128, q (ix2 ⟨8192 + r.val, by omega⟩ ⟨y.val / 64 * 128 + d.val, by omega⟩)
      * kc (ix2 ⟨r.val / 1024 * 256 + j.val, by omega⟩ ⟨y.val / 64 * 128 + d.val, by omega⟩)) * scale)
    (fun j => vc (ix2 ⟨r.val / 1024 * 256 + j.val, by omega⟩ ⟨y.val / 64 * 128 + (64 + y.val % 64), by omega⟩))

variable (m : (ℓ : Loc nD τ sig) → Buf (Elt Ideal) ℓ)

/-- The kernel's result array, closed. -/
abbrev result (c : Dev nD) : Vec Ideal S4096x512 .bf16 := fun i =>
  arrayAt (m ((c : Thread nD τ).loc main_arg0)) (m ((c : Thread nD τ).loc main_arg1)) (m ((c : Thread nD τ).loc main_arg2))
    (m ((c : Thread nD τ).loc main_arg3)) (m ((c : Thread nD τ).loc main_arg4)) (i 0) (i 1)

/-- The staged blocks, read: queries, -/
theorem q_at (c : Dev nD) (t : Fin cfg0.N) (r : Fin 512) (x : Fin 1024) (n : ℕ) (hn : n = t.val * 512 + r.val) (h) :
    iblk m c 0 t (ix2 r x) = m ((c : Thread nD τ).loc main_arg0) (ix2 ⟨8192 + n, h⟩ x) := by
  subst hn
  blk_point [iblk, V, idx t]

/-- keys and -/
theorem k_at (c : Dev nD) (t : Fin cfg0.N) (j : Fin 1024) (x : Fin 1024) (n : ℕ) (hn : n / 1024 = t.val / 2) (h) :
    iblk m c 1 t (ix2 j x) = m ((c : Thread nD τ).loc main_arg1) (ix2 ⟨8192 + (n / 1024 * 1024 + j.val), h⟩ x) := by
  blk_point [iblk, V, idx t]

/-- values of the request, -/
theorem v_at (c : Dev nD) (t : Fin cfg0.N) (j : Fin 1024) (x : Fin 1024) (n : ℕ) (hn : n / 1024 = t.val / 2) (h) :
    iblk m c 2 t (ix2 j x) = m ((c : Thread nD τ).loc main_arg2) (ix2 ⟨8192 + (n / 1024 * 1024 + j.val), h⟩ x) := by
  blk_point [iblk, V, idx t]

/-- its cached keys and -/
theorem kc_at (c : Dev nD) (t : Fin cfg0.N) (j : Fin 256) (x : Fin 1024) (n : ℕ) (hn : n / 1024 = t.val / 2) (h) :
    iblk m c 3 t (ix2 j x) = m ((c : Thread nD τ).loc main_arg3) (ix2 ⟨n / 1024 * 256 + j.val, h⟩ x) := by
  blk_point [iblk, V, idx t]

/-- cached values. -/
theorem vc_at (c : Dev nD) (t : Fin cfg0.N) (j : Fin 256) (x : Fin 1024) (n : ℕ) (hn : n / 1024 = t.val / 2) (h) :
    iblk m c 4 t (ix2 j x) = m ((c : Thread nD τ).loc main_arg4) (ix2 ⟨n / 1024 * 256 + j.val, h⟩ x) := by
  blk_point [iblk, V, idx t]

/-- Grid point `t`'s block of the closed array is what the point computes. -/
theorem block_of_array (c : Dev nD) (t : Fin cfg0.N) (r : Fin 512) (y : Fin 512) (n : Fin 4096)
    (hn : n.val = t.val * 512 + r.val) :
    blockAt (iblk m c 0 t) (iblk m c 1 t) (iblk m c 2 t) (iblk m c 3 t) (iblk m c 4 t) r y
      = arrayAt (m ((c : Thread nD τ).loc main_arg0)) (m ((c : Thread nD τ).loc main_arg1))
          (m ((c : Thread nD τ).loc main_arg2)) (m ((c : Thread nD τ).loc main_arg3))
          (m ((c : Thread nD τ).loc main_arg4)) n y := by
  have hn' : n.val / 1024 = t.val / 2 := by omega
  unfold blockAt arrayAt
  congr 1
  · exact funext fun j => congrArg (· * scale) (Finset.sum_congr rfl fun d _ =>
      congrArg₂ (· * ·) (q_at m c t r _ n hn _) (k_at m c t j _ n hn' _))
  · exact funext fun j => v_at m c t j _ n hn' _
  · exact funext fun j => congrArg (· * scale) (Finset.sum_congr rfl fun d _ =>
      congrArg₂ (· * ·) (q_at m c t r _ n hn _) (kc_at m c t j _ n hn' _))
  · exact funext fun j => vc_at m c t j _ n hn' _

/-- The kernel leaves the closed array. -/
theorem final (c : Dev nD) : (dats m 0 c).arrAt 5 cfg0.N = result m c := by
  refine (dats m 0 c).arrAt_eq_of_covers 5 _ (by decide +kernel) fun t _ y => ?_
  blk_simp
  rw [after0_5, block_eq]
  refine (block_of_array m c t (y 0) (y 1) ((win0_5.blk t).view.emb y 0) ?_).trans ?_
  · blk_simp [idx t]
  · refine congrArg (arrayAt _ _ _ _ _ _) (Fin.ext ?_)
    blk_simp [idx t]

end Cert.KernelIdeal.Att

end
-- ==== Proof.Reference.lean ====
/- What the reference of the latent attention computes at an index. -/
module

public import proofs.«01_k».proof.Proof.Gen.ReferenceIdeal.Run
public import proofs.«01_k».proof.Proof.Softmax
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.ReferenceIdeal.Att

open Cert.ReferenceIdeal Cert.ReferenceIdeal.Gen Cert.Softmax

/-! ## The reference's steps, one definition each -/

/-- The denoising rows of an array, by request, token, head and lane. -/
def rows (q : FVec Ideal S12288x1024 .bf16) : FVec Ideal S4x1024x8x128 .f32 :=
  shapeCast _ (extractStridedSlice S4096x1024 ![8192, 0] (extf .f32 q bitsLt_bf16_f32)
    slices_S12288x1024_S4096x1024_8192_0) shapeCasts_S4096x1024_S4x1024x8x128

/-- The cached keys and the denoising keys in one list. -/
def keys (k : FVec Ideal S12288x1024 .bf16) (kc : FVec Ideal S1024x1024 .bf16) : FVec Ideal S4x1280x8x128 .f32 :=
  concatenate S4x1280x8x128 1
    [⟨S4x256x8x128, (shapeCast _ (extf .f32 kc bitsLt_bf16_f32) shapeCasts_S1024x1024_S4x256x8x128)⟩,
      ⟨S4x1024x8x128, rows k⟩] concatenates_S4x256x8x128_S4x1024x8x128_S4x1280x8x128_d1

/-- The cached values and the denoising values in one list, the upper lanes of their heads. -/
def values (v : FVec Ideal S12288x1024 .bf16) (vc : FVec Ideal S1024x1024 .bf16) : FVec Ideal S4x1280x8x64 .f32 :=
  concatenate S4x1280x8x64 1
    [⟨S4x256x8x64, (extractStridedSlice S4x256x8x64 ![0, 0, 0, 64]
        (shapeCast _ (extf .f32 vc bitsLt_bf16_f32) shapeCasts_S1024x1024_S4x256x8x128)
        slices_S4x256x8x128_S4x256x8x64_0_0_0_64)⟩,
      ⟨S4x1024x8x64, (extractStridedSlice S4x1024x8x64 ![0, 0, 0, 64] (rows v)
        slices_S4x1024x8x128_S4x1024x8x64_0_0_0_64)⟩] concatenates_S4x256x8x64_S4x1024x8x64_S4x1280x8x64_d1

def scores (q : FVec Ideal S4x1024x8x128 .f32) (k : FVec Ideal S4x1280x8x128 .f32) : FVec Ideal S4x8x1024x1280 .f32 :=
  Host.divf (Host.dotGeneral dot_S4x1024x8x128_S4x1280x8x128_S4x8x1024x1280_3_3_1_1_02_02 none q k)
    (broadcastInDim S4x8x1024x1280 ![] bcast_S_S4x8x1024x1280 (Host.sqrt (constant S_ .f32 0x42C00000#32)))

/-- A number for every query, repeated for every key. -/
def spread (x : FVec Ideal S4x8x1024 .f32) : FVec Ideal S4x8x1024x1280 .f32 :=
  broadcastInDim S4x8x1024x1280 ![0, 1, 2, 3] bcast_S4x8x1024x1_S4x8x1024x1280_0_1_2_3
    (broadcastInDim S4x8x1024x1 ![0, 1, 2] bcast_S4x8x1024_S4x8x1024x1_0_1_2 x)

def greatest (s : FVec Ideal S4x8x1024x1280 .f32) : FVec Ideal S4x8x1024 .f32 :=
  maximumf (broadcastInDim S4x8x1024 ![] bcast_S_S4x8x1024 (constant S_ .f32 0xFF800000#32))
    (Host.reduce FloatOps.maximumf s (constant S_ .f32 0xFF800000#32) reducesTo_S4x8x1024x1280_S4x8x1024_d3 h_S_)

def exponentials (s : FVec Ideal S4x8x1024x1280 .f32) (g : FVec Ideal S4x8x1024 .f32) :
    FVec Ideal S4x8x1024x1280 .f32 := Host.exp (subf s (spread g))

def weights (e : FVec Ideal S4x8x1024x1280 .f32) : FVec Ideal S4x8x1024x1280 .f32 :=
  Host.divf e (spread (Host.reduceAdd e (constant S_ .f32 0x00000000#32) reducesTo_S4x8x1024x1280_S4x8x1024_d3 h_S_))

def output (v : FVec Ideal S4x1280x8x64 .f32) (p : FVec Ideal S4x8x1024x1280 .f32) : FVec Ideal S4096x512 .bf16 :=
  truncf .bf16 (shapeCast _ (transpose S4x1024x8x64 [0, 3, 1, 2]
    (Host.dotGeneral dot_S4x1280x8x64_S4x8x1024x1280_S4x8x64x1024_1_3_3_2_02_01 none v p)
    transposes_S4x8x64x1024_S4x1024x8x64_0_3_1_2) shapeCasts_S4x1024x8x64_S4096x512) bitsLt_bf16_f32

/-- The reference is its steps in turn. -/
theorem res_eq (m : (ℓ : Loc nD τ sig) → Buf (Elt Ideal) ℓ) (c : Dev nD) :
    Value.res_out0 m c = output
      (values (m ((c.tc : Thread nD τ).loc main_arg2)) (m ((c.tc : Thread nD τ).loc main_arg4)))
      (weights (exponentials
        (scores (rows (m ((c.tc : Thread nD τ).loc main_arg0)))
          (keys (m ((c.tc : Thread nD τ).loc main_arg1)) (m ((c.tc : Thread nD τ).loc main_arg3))))
        (greatest (scores (rows (m ((c.tc : Thread nD τ).loc main_arg0)))
          (keys (m ((c.tc : Thread nD τ).loc main_arg1)) (m ((c.tc : Thread nD τ).loc main_arg3))))))) := rfl

/-! ## Each step at an index -/

theorem rows_at (q : FVec Ideal S12288x1024 .bf16) (b : Fin 4) (t : Fin 1024) (h : Fin 8) (d : Fin 128) :
    rows q (ix4 b t h d) = q (ix2 ⟨8192 + (b.val * 1024 + t.val), by omega⟩ ⟨h.val * 128 + d.val, by omega⟩) := by
  pointwise [rows]

theorem keys_at (k : FVec Ideal S12288x1024 .bf16) (kc : FVec Ideal S1024x1024 .bf16) (b : Fin 4) (t : Fin 1280)
    (h : Fin 8) (d : Fin 128) :
    keys k kc (ix4 b t h d)
      = if hl : t.val < 256 then kc (ix2 ⟨b.val * 256 + t.val, by omega⟩ ⟨h.val * 128 + d.val, by omega⟩)
        else k (ix2 ⟨8192 + (b.val * 1024 + (t.val - 256)), by omega⟩ ⟨h.val * 128 + d.val, by omega⟩) := by
  pointwise [keys]
  split
  · rfl
  · exact rows_at k b ⟨t.val - 256, by omega⟩ h d

theorem values_at (v : FVec Ideal S12288x1024 .bf16) (vc : FVec Ideal S1024x1024 .bf16) (b : Fin 4) (t : Fin 1280)
    (h : Fin 8) (d : Fin 64) :
    values v vc (ix4 b t h d)
      = if hl : t.val < 256 then vc (ix2 ⟨b.val * 256 + t.val, by omega⟩ ⟨h.val * 128 + (64 + d.val), by omega⟩)
        else v (ix2 ⟨8192 + (b.val * 1024 + (t.val - 256)), by omega⟩ ⟨h.val * 128 + (64 + d.val), by omega⟩) := by
  pointwise [values]
  split
  · rfl
  · exact rows_at v b ⟨t.val - 256, by omega⟩ h ⟨64 + d.val, by omega⟩

theorem scores_at (q : FVec Ideal S4x1024x8x128 .f32) (k : FVec Ideal S4x1280x8x128 .f32) (b : Fin 4) (h : Fin 8)
    (t : Fin 1024) (j : Fin 1280) :
    scores q k (ix4 b h t j) = Ideal.div (∑ x, q (ix4 b t h x) * k (ix4 b j h x))
      (Ideal.sqrt (Ideal.ofBits .f32 1119879168#32)) := by
  pointwise [scores]

theorem spread_at (x : FVec Ideal S4x8x1024 .f32) (b : Fin 4) (h : Fin 8) (t : Fin 1024) (j : Fin 1280) :
    spread x (ix4 b h t j) = x (ix3 b h t) := by
  pointwise [spread]

theorem fold_at (s : FVec Ideal S4x8x1024x1280 .f32) (c : FVec Ideal S_ .f32) (b : Fin 4) (h : Fin 8) (t : Fin 1024) :
    Host.reduce FloatOps.maximumf s c reducesTo_S4x8x1024x1280_S4x8x1024_d3 h_S_ (ix3 b h t)
      = Finset.univ.fold max (c (Shape.Idx.first h_S_)) fun j : Fin 1280 => s (ix4 b h t j) := by
  pointwise

theorem above_bot (s : FVec Ideal S4x8x1024 .f32) (i : S4x8x1024.Idx) :
    maximumf (broadcastInDim S4x8x1024 ![] bcast_S_S4x8x1024 (constant S_ .f32 0xFF800000#32)) s i = max ⊥ (s i) :=
  congrArg (fun x => max x (s i)) word_bot

theorem greatest_at (s : FVec Ideal S4x8x1024x1280 .f32) (b : Fin 4) (h : Fin 8) (t : Fin 1024) :
    greatest s (ix3 b h t) = max ⊥ (top fun j => s (ix4 b h t j)) := by
  unfold greatest
  rw [above_bot, fold_at]
  exact congrArg (fun x => max ⊥ (Finset.univ.fold max x fun j : Fin 1280 => s (ix4 b h t j))) word_bot

theorem exponentials_at (s : FVec Ideal S4x8x1024x1280 .f32) (g : FVec Ideal S4x8x1024 .f32) (b : Fin 4) (h : Fin 8)
    (t : Fin 1024) (j : Fin 1280) :
    exponentials s g (ix4 b h t j) = Ideal.exp (s (ix4 b h t j) - g (ix3 b h t)) :=
  congrArg (fun x => Ideal.exp (s (ix4 b h t j) - x)) (spread_at g b h t j)

theorem total_at (e : FVec Ideal S4x8x1024x1280 .f32) (b : Fin 4) (h : Fin 8) (t : Fin 1024) :
    Host.reduceAdd e (constant S_ .f32 0x00000000#32) reducesTo_S4x8x1024x1280_S4x8x1024_d3 h_S_ (ix3 b h t)
      = ∑ j, e (ix4 b h t j) := by
  pointwise

theorem weights_at (e : FVec Ideal S4x8x1024x1280 .f32) (b : Fin 4) (h : Fin 8) (t : Fin 1024) (j : Fin 1280) :
    weights e (ix4 b h t j) = Ideal.div (e (ix4 b h t j)) (∑ i, e (ix4 b h t i)) :=
  congrArg (Ideal.div (e (ix4 b h t j))) ((spread_at _ b h t j).trans (total_at e b h t))

theorem output_at (v : FVec Ideal S4x1280x8x64 .f32) (p : FVec Ideal S4x8x1024x1280 .f32) (r : Fin 4096) (y : Fin 512) :
    output v p (ix2 r y)
      = ∑ j, v (ix4 ⟨r.val / 1024, by omega⟩ j ⟨y.val / 64, by omega⟩ ⟨y.val % 64, by omega⟩)
          * p (ix4 ⟨r.val / 1024, by omega⟩ ⟨y.val / 64, by omega⟩ ⟨r.val % 1024, by omega⟩ j) := by
  pointwise [output]

/-- Of scores that are real the reference's entry is the average of the values by the scores. -/
theorem result_at (q : FVec Ideal S4x1024x8x128 .f32) (k : FVec Ideal S4x1280x8x128 .f32) (v : FVec Ideal S4x1280x8x64 .f32)
    (r : Fin 4096) (y : Fin 512)
    (hs : ∀ j : Fin 1280, Real' (scores q k
      (ix4 ⟨r.val / 1024, by omega⟩ ⟨y.val / 64, by omega⟩ ⟨r.val % 1024, by omega⟩ j))) :
    output v (weights (exponentials (scores q k) (greatest (scores q k)))) (ix2 r y)
      = average
          (fun j => scores q k (ix4 ⟨r.val / 1024, by omega⟩ ⟨y.val / 64, by omega⟩ ⟨r.val % 1024, by omega⟩ j))
          (fun j => v (ix4 ⟨r.val / 1024, by omega⟩ j ⟨y.val / 64, by omega⟩ ⟨y.val % 64, by omega⟩)) := by
  rw [output_at, ← softmax_eq_average hs]
  simp only [weights_at, exponentials_at, greatest_at]

end Cert.ReferenceIdeal.Att

end
-- ==== Proof.Equation.lean ====
/- The latent attention's kernel and reference compute one function of finite queries and keys. -/
module

public import proofs.«01_k».proof.Proof.Array
public import proofs.«01_k».proof.Proof.Reference
public import proofs.«01_k».proof.Pre_finite
public import Idealize.ShloMosaic.Lib.ReduceAll

@[expose] public section

set_option maxRecDepth 16384

noncomputable section

open Idealize.ShloMosaic Idealize.ShloMosaic.TcCoe Idealize.SL.Sem

/-! ## The precondition, read -/

namespace Cert.Pre_finite

open Cert.Softmax

theorem and_one {a b : BitVec 1} (h : IntOp.andi a b = 1#1) : a = 1#1 ∧ b = 1#1 := by
  revert a b; decide

/-- An element that compares below +∞ in absolute value is a real number. -/
theorem real_of_bit {x : EReal}
    (h : BitVec.ofBool (decide (FloatOps.absf (F := Ideal) (φ := .f32) x < Ideal.ofBits .f32 2139095040#32)) = 1#1) :
    Real' x := by
  rw [word_top] at h
  by_cases hx : FloatOps.absf (F := Ideal) (φ := .f32) x < (⊤ : EReal)
  · exact real_of_abs_lt hx
  · rw [decide_eq_false hx] at h
    exact absurd h (by decide)

variable [Facts]
open Facts

instance : Subsingleton S_.Idx := ⟨fun a b => funext fun i => i.elim0⟩

/-- Where the precondition holds the queries, the keys and the cached keys that are read are real numbers. -/
theorem reals (q k v : FVec Ideal S12288x1024 .bf16) (kc vc : FVec Ideal S1024x1024 .bf16)
    (h : fn (F := Ideal) q k v kc vc = fun _ => 1#1) :
    (∀ (r : Fin 4096) (x : Fin 1024), Real' (q (ix2 ⟨8192 + r.val, by omega⟩ x)))
    ∧ (∀ (r : Fin 4096) (x : Fin 1024), Real' (k (ix2 ⟨8192 + r.val, by omega⟩ x)))
    ∧ ∀ (r x : Fin 1024), Real' (kc (ix2 r x)) := by
  have e := congrFun h (Shape.Idx.first h_S_)
  obtain ⟨e, e3⟩ := and_one e
  obtain ⟨e1, e2⟩ := and_one e
  have e1 := fun i => Host.reduce_andi_all _ _ _ _ _ e1 i
  have e2 := fun i => Host.reduce_andi_all _ _ _ _ _ e2 i
  have e3 := fun i => Host.reduce_andi_all _ _ _ _ _ e3 i
  refine ⟨fun r x => ?_, fun r x => ?_, fun r x => ?_⟩
  · have b := e1 (ix2 r x)
    pointwise at b
    exact real_of_bit b
  · have b := e2 (ix2 r x)
    pointwise at b
    exact real_of_bit b
  · have b := e3 (ix2 r x)
    pointwise at b
    exact real_of_bit b

end Cert.Pre_finite

/-! ## The equation -/

namespace Cert.Att

open Cert.Softmax Cert.KernelIdeal.Att Cert.ReferenceIdeal.Att

/-- The named scale is the inverse root of 96. -/
theorem scale_eq : scale = (((Real.sqrt 96)⁻¹ : ℝ) : EReal) := IdealRules.named_const.ideal_named_scalar _ _ _ _ rfl

/-- Division by the root of 96 is the scale. -/
theorem div_root (x : EReal) : Ideal.div x (Ideal.sqrt (Ideal.ofBits .f32 1119879168#32)) = x * scale := by
  have h : Ideal.sqrt ((96 : ℝ) : EReal) = ((Real.sqrt 96 : ℝ) : EReal) := by
    rw [Ideal.sqrt_coe, if_neg (by norm_num)]
  rw [word_96, h, div_real _ (Real.sqrt_pos.mpr (by norm_num)), scale_eq]

variable (q k v : FVec Ideal KernelIdeal.S12288x1024 .bf16) (kc vc : FVec Ideal KernelIdeal.S1024x1024 .bf16)

/-- The reference's score of a query and a denoising key, -/
theorem score_new (r : Fin 4096) (y : Fin 512) (j : Fin 1024) :
    scores (rows q) (keys k kc) (ix4 ⟨r.val / 1024, by omega⟩ ⟨y.val / 64, by omega⟩ ⟨r.val % 1024, by omega⟩ ⟨256 + j.val, by omega⟩)
      = (∑ d : Fin 128, q (ix2 ⟨8192 + r.val, by omega⟩ ⟨y.val / 64 * 128 + d.val, by omega⟩)
      * k (ix2 ⟨8192 + (r.val / 1024 * 1024 + j.val), by omega⟩ ⟨y.val / 64 * 128 + d.val, by omega⟩)) * scale := by
  rw [scores_at, div_root]
  refine congrArg (· * scale) (Finset.sum_congr rfl fun d _ => ?_)
  rw [rows_at, keys_at, dif_neg (by simp only []; omega)]
  refine congrArg₂ (· * ·) (congrArg q ?_) (congrArg k ?_)
  · exact congrArg (ix2 · _) (Fin.ext (by simp only []; omega))
  · exact congrArg (ix2 · _) (Fin.ext (by simp only []; omega))

/-- and of a query and a cached key. -/
theorem score_ctx (r : Fin 4096) (y : Fin 512) (j : Fin 256) :
    scores (rows q) (keys k kc) (ix4 ⟨r.val / 1024, by omega⟩ ⟨y.val / 64, by omega⟩ ⟨r.val % 1024, by omega⟩ ⟨j.val, by omega⟩)
      = (∑ d : Fin 128, q (ix2 ⟨8192 + r.val, by omega⟩ ⟨y.val / 64 * 128 + d.val, by omega⟩)
      * kc (ix2 ⟨r.val / 1024 * 256 + j.val, by omega⟩ ⟨y.val / 64 * 128 + d.val, by omega⟩)) * scale := by
  rw [scores_at, div_root]
  refine congrArg (· * scale) (Finset.sum_congr rfl fun d _ => ?_)
  rw [rows_at, keys_at, dif_pos (by simp only []; omega)]
  refine congrArg₂ (· * ·) (congrArg q ?_) rfl
  exact congrArg (ix2 · _) (Fin.ext (by simp only []; omega))

/-- Of finite queries and keys every score is a real number. -/
theorem score_real (hq : ∀ (r : Fin 4096) (x : Fin 1024), Real' (q (ix2 ⟨8192 + r.val, by omega⟩ x)))
    (hk : ∀ (r : Fin 4096) (x : Fin 1024), Real' (k (ix2 ⟨8192 + r.val, by omega⟩ x)))
    (hc : ∀ (r x : Fin 1024), Real' (kc (ix2 r x))) (r : Fin 4096) (y : Fin 512) (j : Fin 1280) :
    Real' (scores (rows q) (keys k kc)
      (ix4 ⟨r.val / 1024, by omega⟩ ⟨y.val / 64, by omega⟩ ⟨r.val % 1024, by omega⟩ j)) := by
  by_cases h : j.val < 256
  · rw [score_ctx q k kc r y ⟨j.val, h⟩]
    exact (Real'.sum _ fun d => (hq r _).mul (hc ⟨r.val / 1024 * 256 + j.val, by omega⟩ _)).mul ⟨_, scale_eq⟩
  · have e : j = ⟨256 + (j.val - 256), by omega⟩ := Fin.ext (by simp only []; omega)
    rw [e, score_new q k kc r y ⟨j.val - 256, by omega⟩]
    exact (Real'.sum _ fun d => (hq r _).mul
      (hk ⟨r.val / 1024 * 1024 + (j.val - 256), by omega⟩ _)).mul ⟨_, scale_eq⟩

/-- The reference's entry is the kernel's. -/
theorem equal (hq : ∀ (r : Fin 4096) (x : Fin 1024), Real' (q (ix2 ⟨8192 + r.val, by omega⟩ x)))
    (hk : ∀ (r : Fin 4096) (x : Fin 1024), Real' (k (ix2 ⟨8192 + r.val, by omega⟩ x)))
    (hc : ∀ (r x : Fin 1024), Real' (kc (ix2 r x))) (r : Fin 4096) (y : Fin 512) :
    output (values v vc) (weights (exponentials (scores (rows q) (keys k kc)) (greatest (scores (rows q) (keys k kc)))))
        (ix2 r y)
      = arrayAt q k v kc vc r y := by
  rw [result_at _ _ _ r y (score_real q k kc hq hk hc r y)]
  refine average_split (a := 256) (b := 1024) rfl _ _ _ _ _ _ (score_new q k kc r y) (fun j => ?_)
    (score_ctx q k kc r y) (fun j => ?_)
  · rw [values_at, dif_neg (by simp only []; omega)]
    exact congrArg v (congrArg (ix2 · _) (Fin.ext (by simp only []; omega)))
  · rw [values_at, dif_pos (by simp only []; omega)]

end Cert.Att

end
-- ==== Proof.Experts.lean ====
module

public import proofs.«01_k».proof.Defs
public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Ring
public import Idealize.ShloMosaic.Lib.Tactic
public import Idealize.ShloMosaic.Lib.WordCmp

@[expose] public section

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's resources: the pipeline library's beside the transfers' counters. -/
abbrev Res (F : FTy → Type) [FloatOps F] : Type := MT nD τ sig Unit (Elt F) ℕ (Pipeline.UD sig nD τ) ℕ

theorem inbG (k : Fin 2) : ∀ a, (![k.val, 0, 0] : Fin 3 → Nat) a + S1x1024x2048.size a ≤ S2x1024x2048.size a := by
  have := k.isLt; intro a; fin_cases a
  · show k.val + 1 ≤ 2; omega
  · show 0 + 1024 ≤ 1024; omega
  · show 0 + 2048 ≤ 2048; omega

theorem inbD (k : Fin 2) : ∀ a, (![k.val, 0, 0] : Fin 3 → Nat) a + S1x1024x1024.size a ≤ S2x1024x1024.size a := by
  have := k.isLt; intro a; fin_cases a
  · show k.val + 1 ≤ 2; omega
  · show 0 + 1024 ≤ 1024; omega
  · show 0 + 1024 ≤ 1024; omega

/-- Slot `k` of the gate-and-up weights' two, and of the down weights' two. -/
def slotG (k : Fin 2) : Memref sig .tc .vmem S1024x2048 .f32 :=
  ((Memref.whole cc0_scratch2).slice (Rect.unit (s := S2x1024x2048) ![k.val, 0, 0] S1x1024x2048.size (inbG k)) (fun _ => rfl)).squeeze S1024x2048 squeezes_S1x1024x2048_S1024x2048
def slotD (k : Fin 2) : Memref sig .tc .vmem S1024x1024 .f32 :=
  ((Memref.whole cc0_scratch3).slice (Rect.unit (s := S2x1024x1024) ![k.val, 0, 0] S1x1024x1024.size (inbD k)) (fun _ => rfl)).squeeze S1024x1024 squeezes_S1x1024x1024_S1024x1024

abbrev mT0 : Memref sig .tc .smem S128 .i32 := Memref.whole main_arg0
abbrev mT1 : Memref sig .tc .smem S128 .i32 := Memref.whole main_arg1
abbrev mT2 : Memref sig .tc .smem S1 .i32 := Memref.whole main_arg2
abbrev mT3 : Memref sig .tc .smem S128 .i32 := Memref.whole main_arg3
abbrev mT4 : Memref sig .tc .smem S128 .i32 := Memref.whole main_arg4
abbrev mA6 : Memref sig .tc .hbm S4x32x1024x2048 .f32 := Memref.whole main_arg6
abbrev mA8 : Memref sig .tc .hbm S4x32x1024x1024 .f32 := Memref.whole main_arg8
abbrev mS0 : Memref sig .tc .vmem S1024x2048 .bf16 := Memref.whole cc0_scratch0
abbrev mS1 : Memref sig .tc .vmem S1024x1024 .bf16 := Memref.whole cc0_scratch1
abbrev mS2 : Memref sig .tc .vmem S2x1024x2048 .f32 := Memref.whole cc0_scratch2
abbrev mS3 : Memref sig .tc .vmem S2x1024x1024 .f32 := Memref.whole cc0_scratch3

/-- The contents of a memref's buffer on core `c`, and the buffer held whole at them. -/
abbrev Cont (c : Dev nD) {sp : Space} {S : Shape} {e : EltTy} (M : Memref sig .tc sp S e) : Type := Buf (Elt F) (M.view.loc (c : Thread nD τ))
abbrev held (c : Dev nD) {sp : Space} {S : Shape} {e : EltTy} (M : Memref sig .tc sp S e) (q : PosShare TreeShare) (f : Cont (F := F) c M) : sProp (Res F) :=
  M.view.loc (c : Thread nD τ) ↦{q} f
/-- A table's buffer held along the half share. -/
def tab (c : Dev nD) {S : Shape} (M : Memref sig .tc .smem S .i32) (f : Cont (F := F) c M) : sProp (Res F) :=
  M.view.loc (c : Thread nD τ) ↦{fullShare.right} f
/-- A view's own elements held. -/
abbrev heldOn (c : Dev nD) {sp : Space} {S : Shape} {e : EltTy} (M : Memref sig .tc sp S e) (f : Cont (F := F) c M) : sProp (Res F) :=
  M.view.loc (c : Thread nD τ) ↦[M.view.set]{fullShare} f

variable (c : Dev nD)

theorem ret_bind_at {Ef : Type → Type _} {α β : Type} (a : α) (K : α → Prog Ef β) : (Prog.ret a >>= K) = K a := rfl

theorem lift_assume_bind {p : Proc τ} {α : Type} {P : Prop} {d : Decidable P} (K : PLift P → Prog (TpuEff nD τ sig (Elt F) Λ₀ p) α) :
    (Prog.lift (TpuEff.assume P d) >>= K) = .op (.assume P d) K := rfl

/-- Reading a table's word: the continuation runs at any name `w` of the word read. -/
theorem wp_word {s : Shape} {M : Memref sig .tc .smem s .i32} {r : Rect s} {hl : M.view.LoadsAt r.toLoadRect} {x : r.shape.Idx}
    {f : Buf (Elt F) (M.view.loc (c : Thread nD τ))} {Q : BitVec 32 → sProp (Res F)} (w : BitVec 32)
    (hw : w = (M.access r).read (Elt F) f x) :
    tab c M f
      ⊢ iprop((tab c M f -∗ Q w)
        -∗ wp frame (wpE (defs₀ (F := F)) Variants.none (c : Thread nD τ) none) Set.univ
            (.op (.load M r.toLoadRect hl) fun g => .ret (g x)) Q) := by
  subst hw; unfold tab
  iintro H K
  iapply (wp_load_rect Variants.none (c : Thread nD τ) none Set.univ (m := M) (r := r) (Finset.subset_univ _)) $$ H
  iintro H
  sl_step
  iapply K $$ H

theorem wp_word_bind {s : Shape} {M : Memref sig .tc .smem s .i32} {r : Rect s} {hl : (M.access r).Loads} {x : r.shape.Idx}
    {f : Cont (F := F) c M} {α : Type} {Q : α → sProp (Res F)} {K : BitVec 32 → Prog (TpuEff nD τ sig (Elt F) Λ₀ .tc) α} (w : BitVec 32)
    (hw : w = (M.access r).read (Elt F) f x) :
    tab c M f
      ⊢ iprop((tab c M f -∗ wp frame (wpE (defs₀ (F := F)) Variants.none (c : Thread nD τ) none) Set.univ (K w) Q)
        -∗ wp frame (wpE (defs₀ (F := F)) Variants.none (c : Thread nD τ) none) Set.univ
            (smemLoadElt M r hl x .ret >>= K) Q) := by
  rw [wp_bind]
  exact wp_word c (hl := View.loadsAt_rect hl) (Q := fun a => wp frame (wpE (defs₀ (F := F)) Variants.none (c : Thread nD τ) none) Set.univ (K a) Q) w hw

/-- Cell `k` of each array's two transfers. -/
def cellG (k : Fin 2) : SemLoc sig := SemLoc.dma ⟨8 + 2 * k.val, by have := k.isLt; show 8 + 2 * k.val < 12; omega⟩
def cellD (k : Fin 2) : SemLoc sig := SemLoc.dma ⟨9 + 2 * k.val, by have := k.isLt; show 9 + 2 * k.val < 12; omega⟩

theorem cellG_0 : cellG 0 = SemLoc.dma 8 := rfl
theorem cellG_1 : cellG 1 = SemLoc.dma 10 := rfl
theorem cellD_0 : cellD 0 = SemLoc.dma 9 := rfl
theorem cellD_1 : cellD 1 = SemLoc.dma 11 := rfl

theorem inbSG (w : BitVec 32) (h : w.toNat < 32) : ∀ a, (![0, w.toNat, 0, 0] : Fin 4 → Nat) a + S1x1x1024x2048.size a ≤ S4x32x1024x2048.size a := by
  intro a; fin_cases a
  · show 0 + 1 ≤ 4; omega
  · show w.toNat + 1 ≤ 32; omega
  · show 0 + 1024 ≤ 1024; omega
  · show 0 + 2048 ≤ 2048; omega
theorem inbSD (w : BitVec 32) (h : w.toNat < 32) : ∀ a, (![0, w.toNat, 0, 0] : Fin 4 → Nat) a + S1x1x1024x1024.size a ≤ S4x32x1024x1024.size a := by
  intro a; fin_cases a
  · show 0 + 1 ≤ 4; omega
  · show w.toNat + 1 ≤ 32; omega
  · show 0 + 1024 ≤ 1024; omega
  · show 0 + 1024 ≤ 1024; omega

/-- Expert `w`'s weights in each array. -/
def srcG (w : BitVec 32) (h : w.toNat < 32) : Memref sig .tc .hbm S1024x2048 .f32 :=
  (mA6.slice (Rect.unit (s := S4x32x1024x2048) ![0, w.toNat, 0, 0] S1x1x1024x2048.size (inbSG w h)) (fun _ => rfl)).squeeze S1024x2048 squeezes_S1x1x1024x2048_S1024x2048
def srcD (w : BitVec 32) (h : w.toNat < 32) : Memref sig .tc .hbm S1024x1024 .f32 :=
  (mA8.slice (Rect.unit (s := S4x32x1024x1024) ![0, w.toNat, 0, 0] S1x1x1024x1024.size (inbSD w h)) (fun _ => rfl)).squeeze S1024x1024 squeezes_S1x1x1024x1024_S1024x1024

def tileG (fa : Cont (F := F) c mA6) (w : BitVec 32) (h : w.toNat < 32) : S1024x2048.Idx → Elt F .f32 :=
  ReadAs.same.apply ((srcG w h).view.read (Elt F) fa)
def tileD (fd : Cont (F := F) c mA8) (w : BitVec 32) (h : w.toNat < 32) : S1024x1024.Idx → Elt F .f32 :=
  ReadAs.same.apply ((srcD w h).view.read (Elt F) fd)

/-- A slot's contents once its tile has landed. -/
abbrev landG (k : Fin 2) (f : Cont (F := F) c (slotG k)) (x : S1024x2048.Idx → Elt F .f32) : Cont (F := F) c (slotG k) :=
  (slotG k).view.writes (Elt F) f [⟨Rect.whole S1024x2048, x⟩]
abbrev landD (k : Fin 2) (f : Cont (F := F) c (slotD k)) (x : S1024x1024.Idx → Elt F .f32) : Cont (F := F) c (slotD k) :=
  (slotD k).view.writes (Elt F) f [⟨Rect.whole S1024x1024, x⟩]

/-- Slot `k` free: both buffers at anything, both cells at zero. -/
def freeSlot (k : Fin 2) : sProp (Res F) :=
  iprop((∃ f, heldOn c (slotG k) f) ∗ (∃ f, heldOn c (slotD k) f)
    ∗ semVal ((c : Thread nD τ), cellG k) 0 ∗ semVal ((c : Thread nD τ), cellD k) 0)

/-- Slot `k` being filled with expert `w`'s weights, the rest of the two arrays beside it. -/
def flySlot (k : Fin 2) (w : BitVec 32) (fa : Cont (F := F) c mA6) (fd : Cont (F := F) c mA8) : sProp (Res F) :=
  iprop(∃ (h : w.toNat < 32) (g : Cont (F := F) c (slotG k)) (d : Cont (F := F) c (slotD k)),
    Transfers.Flight (countersEmb (U := Pipeline.UD sig nD τ)) (c : Thread nD τ) (cellG k) () 262144
        iprop(heldOn c (slotG k) (landG c k g (tileG c fa w h))
          ∗ (mA6.view.loc (c : Thread nD τ) ↦[(srcG w h).view.set]{fullShare} fa))
      ∗ (mA6.view.loc (c : Thread nD τ) ↦[Finset.univ \ (srcG w h).view.set]{fullShare} fa)
      ∗ Transfers.Flight (countersEmb (U := Pipeline.UD sig nD τ)) (c : Thread nD τ) (cellD k) () 131072
        iprop(heldOn c (slotD k) (landD c k d (tileD c fd w h))
          ∗ (mA8.view.loc (c : Thread nD τ) ↦[(srcD w h).view.set]{fullShare} fd))
      ∗ (mA8.view.loc (c : Thread nD τ) ↦[Finset.univ \ (srcD w h).view.set]{fullShare} fd))

/-- What lies ahead in slot `k`: the next expert's weights on their way, or nothing. -/
def ahead (k : Fin 2) (nx : BitVec 32) (fa : Cont (F := F) c mA6) (fd : Cont (F := F) c mA8) : sProp (Res F) :=
  if k0_cond3 nx = 1#1 then flySlot c k nx fa fd
  else iprop(freeSlot c k ∗ held c mA6 fullShare fa ∗ held c mA8 fullShare fd)

/-- A tile as the body rounds it. -/
def roundG (x : FVec F S1024x2048 .f32) : FVec F S1024x2048 .bf16 :=
  shapeCast S1024x2048 (truncf .bf16 x bitsLt_bf16_f32) shapeCasts_S1024x2048_S1024x2048
def roundD (x : FVec F S1024x1024 .f32) : FVec F S1024x1024 .bf16 :=
  shapeCast S1024x1024 (truncf .bf16 x bitsLt_bf16_f32) shapeCasts_S1024x1024_S1024x1024

/-- The gate-and-up weights of expert `w` as the body rounds them. -/
def wG (fa : Cont (F := F) c mA6) (w : BitVec 32) (h : w.toNat < 32) : Vec F S1024x2048 .bf16 :=
  roundG (tileG c fa w h)

/-- `w` is the word a table holds at `off`. -/
def IsWord (M : Memref sig .tc .smem S128 .i32) (f : Cont (F := F) c M) (off : Fin 1 → Nat) (w : BitVec 32) : Prop :=
  ∀ h x, w = (M.access (Rect.unit (s := S128) off S1.size h)).read (Elt F) f x

theorem held_eq {sp : Space} {S : Shape} {e : EltTy} {M : Memref sig .tc sp S e} {q : PosShare TreeShare} {f g : Cont (F := F) c M} (h : f = g) :
    held c M q f ⊢ held c M q g := by subst h; exact .rfl

theorem loadG (k : Fin 2) (f : Cont (F := F) c (slotG k)) (x : S1024x2048.Idx → Elt F .f32) (h) :
    k0_pay7 (mS2.view.readAt (Elt F) (Rect.unit (s := S2x1024x2048) ![k.val, 0, 0] S1x1024x2048.size h).toLoadRect (landG c k f x)) = roundG x := by
  have e : shapeCast S1024x2048 (mS2.view.readAt (Elt F) (Rect.unit (s := S2x1024x2048) ![k.val, 0, 0] S1x1024x2048.size h).toLoadRect (landG c k f x))
      shapeCasts_S1x1024x2048_S1024x2048 = x :=
    View.read_writes_whole (slotG k).view f x
  exact congrArg roundG e

theorem loadD (k : Fin 2) (f : Cont (F := F) c (slotD k)) (x : S1024x1024.Idx → Elt F .f32) (h) :
    k0_pay1 (mS3.view.readAt (Elt F) (Rect.unit (s := S2x1024x1024) ![k.val, 0, 0] S1x1024x1024.size h).toLoadRect (landD c k f x)) = roundD x := by
  have e : shapeCast S1024x1024 (mS3.view.readAt (Elt F) (Rect.unit (s := S2x1024x1024) ![k.val, 0, 0] S1x1024x1024.size h).toLoadRect (landD c k f x))
      shapeCasts_S1x1024x1024_S1024x1024 = x :=
    View.read_writes_whole (slotD k).view f x
  exact congrArg roundD e

set_option maxHeartbeats 4000000 in
/-- The first block's switch: its weights are started and awaited, the next ones started. -/
theorem first_run (i : grid0.Coords) (x6 : Memref sig .tc .vmem S512x8x128 .f32) (h6 : x6.IsWhole)
    (x8 : Memref sig .tc .vmem S1x1x1x2048 .f32) (h8 : x8.IsWhole)
    (x10 : Memref sig .tc .vmem S1x1x1x1024 .f32) (h10 : x10.IsWhole)
    (x11 : Memref sig .tc .vmem S512x8x128 .f32) (h11 : x11.IsWhole)
    (t0 : Cont (F := F) c mT0) (t3 : Cont (F := F) c mT3) (t4 : Cont (F := F) c mT4) (fa : Cont (F := F) c mA6) (fd : Cont (F := F) c mA8)
    (v1 v5 v9 b nx : BitVec 32) (k k' : Fin 2) (hk : (b = 0#32 ∧ k = 0 ∧ k' = 1) ∨ (b = 1#32 ∧ k = 1 ∧ k' = 0))
    (hc1 : k0_cond1 i v1 v5 v9 = 1#1) (hc2 : k0_cond2 i = 1#1)
    (he : v5.toNat < 32) (hn : k0_cond3 nx = 1#1 → nx.toNat < 32)
    (w3 : IsWord c mT3 t3 (k0_off3 i) b) (w0 : IsWord c mT0 t0 (k0_off4 i) v5) (w0' : IsWord c mT0 t0 (k0_off11 i) v5)
    (w4 : IsWord c mT4 t4 (k0_off18 i) nx) (w4' : IsWord c mT4 t4 (k0_off19 i) nx)
    (hk1 : k0_chk1 i v1 v5 v9 b) (hk2 : k0_chk2 i v1 v5 v9 v5) (hk3 : k0_chk3 i v1 v5 v9 v5)
    (hk4 : k0_chk4 i v1 v5 v9 b nx) (hk5 : k0_cond3 nx = 1#1 → k0_chk5 i v1 v5 v9 nx nx)
    (Q : (Σ' (v31 : Elt F .i32), k0_chk1 i v1 v5 v9 v31) → sProp (Res F)) (W : Waits sig Unit) :
    iprop((tab c mT0 t0 ∗ tab c mT3 t3 ∗ tab c mT4 t4 ∗ freeSlot c k ∗ freeSlot c k' ∗ held c mA6 fullShare fa ∗ held c mA8 fullShare fd
      ∗ (∃ f, held c mS0 fullShare f) ∗ owes (c : Thread nD τ) 0 W)
      ∗ ((tab c mT0 t0 ∗ tab c mT3 t3 ∗ tab c mT4 t4
          ∗ (∃ f, held c mS0 fullShare (mS0.view.writes (Elt F) f [⟨Rect.unit ![0, 0] S1024x2048.size inb_S1024x2048_S1024x2048_0_0, wG c fa v5 he⟩]))
          ∗ (∃ f, heldOn c (slotG k) f) ∗ (∃ f, heldOn c (slotD k) (landD c k f (tileD c fd v5 he)))
          ∗ semVal ((c : Thread nD τ), cellG k) 0 ∗ semVal ((c : Thread nD τ), cellD k) 0
          ∗ ahead c k' nx fa fd ∗ (∃ W', owes (c : Thread nD τ) 0 W')) -∗ Q ⟨b, hk1⟩))
     ⊢ wp frame (wpE (defs₀ (F := F)) Variants.none c none) Set.univ
        (k0_part1 i mT0 (Memref.isWhole_whole _) mT1 (Memref.isWhole_whole _) mT2 (Memref.isWhole_whole _)
          mT3 (Memref.isWhole_whole _) mT4 (Memref.isWhole_whole _) x6 h6 mA6 (Memref.isWhole_whole _)
          x8 h8 mA8 (Memref.isWhole_whole _) x10 h10 x11 h11
          mS0 (Memref.isWhole_whole _) mS1 (Memref.isWhole_whole _)
          mS2 (Memref.isWhole_whole _) mS3 (Memref.isWhole_whole _)
          cc0_scratch4 (BitVec.ofNat 32 (i 0).val) v1 v5 v9 hc1) Q := by
  simp only [k0_part1_eq_skeleton]; unfold k0_part1_skel
  unfold smemLoad freeSlot
  rcases hk with ⟨rfl, rfl, rfl⟩ | ⟨rfl, rfl, rfl⟩ <;> by_cases h3 : k0_cond3 nx = 1#1 <;>
    simp only [cellG_0, cellG_1, cellD_0, cellD_1]
  all_goals
    iintro ⟨⟨T0, T3, T4, ⟨⟨%g0, G0⟩, ⟨%d0, D0⟩, C8, C9⟩, ⟨⟨%g1, G1⟩, ⟨%d1, D1⟩, C10, C11⟩, A6, A8, ⟨%s0, S0⟩, HW⟩, HK⟩
    iapply (wp_word_bind c (M := mT3) _ (w3 _ _)) $$ T3; iintro T3; beta_reduce
    rw [lift_assume_bind]
    iapply (wp_assume _ _ _ _ hk1)
    sl_exec
    iapply (wp_word c (M := mT0) _ (w0 _ _)) $$ T0; iintro T0; beta_reduce
    sl_exec
    iapply (wp_word c (M := mT0) _ (w0' _ _)) $$ T0; iintro T0; beta_reduce
    sl_exec
    iapply (wp_word c (M := mT4) _ (w4 _ _)) $$ T4; iintro T4; beta_reduce
    first
    | (have hk5' := hk5 h3
       sl_exec
       iapply (wp_word c (M := mT4) _ (w4' _ _)) $$ T4; iintro T4; beta_reduce
       sl_exec)
    | sl_exec
    sl_step
    iapply HK
    isplitl [T0]; · iexact T0
    isplitl [T3]; · iexact T3
    isplitl [T4]; · iexact T4
    isplitl [S0]
    · iexists _
      iapply (held_eq c (congrArg (fun v => mS0.view.writes (Elt F) _ [⟨Rect.unit ![0, 0] S1024x2048.size inb_S1024x2048_S1024x2048_0_0, v⟩]) (loadG c _ _ _ _))) $$ S0
    isplitl [G0]; · iexists _; iexact G0
    isplitl [D0]; · iexists _; iexact D0
    isplitl [C8]; · iexact C8
    isplitl [C9]; · iexact C9
    isplitr [HW]
    swap; · iexists _; iexact HW
    unfold ahead
    first
    | (rw [if_pos h3]
       unfold flySlot
       iexists (hn h3), _, _
       simp only [cellG_0, cellG_1, cellD_0, cellD_1]
       isplitl [C10]; · iexact C10
       isplitl [A6]; · iexact A6
       isplitl [C11]; · iexact C11
       iexact A8)
    | (rw [if_neg h3]
       unfold freeSlot
       simp only [cellG_0, cellG_1, cellD_0, cellD_1]
       isplitr [A6 A8]
       · isplitl [G1]; · iexists _; iexact G1
         isplitl [D1]; · iexists _; iexact D1
         isplitl [C10]; · iexact C10
         iexact C11
       isplitl [A6]; · iexact A6
       iexact A8)

end Cert.Kernel2Ideal.Hand

end
-- ==== Proof.ExpertsLater.lean ====
module

public import proofs.«01_k».proof.Defs
public import proofs.«01_k».proof.Proof.Experts
public import Idealize.ShloMosaic.Lib.Pipeline.FrameBody
public import Idealize.ShloMosaic.Lib.Ring
public import Idealize.ShloMosaic.Lib.Tactic
public import Idealize.ShloMosaic.Lib.WordCmp

@[expose] public section

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (c : Dev nD)

set_option maxHeartbeats 4000000 in
/-- A later block's switch: its weights, started by the block before, are awaited and the next ones started. -/
theorem later_run (i : grid0.Coords) (x6 : Memref sig .tc .vmem S512x8x128 .f32) (h6 : x6.IsWhole)
    (x8 : Memref sig .tc .vmem S1x1x1x2048 .f32) (h8 : x8.IsWhole)
    (x10 : Memref sig .tc .vmem S1x1x1x1024 .f32) (h10 : x10.IsWhole)
    (x11 : Memref sig .tc .vmem S512x8x128 .f32) (h11 : x11.IsWhole)
    (t0 : Cont (F := F) c mT0) (t3 : Cont (F := F) c mT3) (t4 : Cont (F := F) c mT4) (fa : Cont (F := F) c mA6) (fd : Cont (F := F) c mA8)
    (v1 v5 v9 b nx : BitVec 32) (k k' : Fin 2) (hk : (b = 0#32 ∧ k = 0 ∧ k' = 1) ∨ (b = 1#32 ∧ k = 1 ∧ k' = 0))
    (hc1 : k0_cond1 i v1 v5 v9 = 1#1) (hc2 : ¬ k0_cond2 i = 1#1)
    (he : v5.toNat < 32) (hn : k0_cond3 nx = 1#1 → nx.toNat < 32)
    (w3 : IsWord c mT3 t3 (k0_off3 i) b) (w0' : IsWord c mT0 t0 (k0_off11 i) v5)
    (w4 : IsWord c mT4 t4 (k0_off18 i) nx) (w4' : IsWord c mT4 t4 (k0_off19 i) nx)
    (hk1 : k0_chk1 i v1 v5 v9 b) (hk3 : k0_chk3 i v1 v5 v9 v5)
    (hk4 : k0_chk4 i v1 v5 v9 b nx) (hk5 : k0_cond3 nx = 1#1 → k0_chk5 i v1 v5 v9 nx nx)
    (Q : (Σ' (v31 : Elt F .i32), k0_chk1 i v1 v5 v9 v31) → sProp (Res F)) (W : Waits sig Unit) :
    iprop((tab c mT0 t0 ∗ tab c mT3 t3 ∗ tab c mT4 t4 ∗ flySlot c k v5 fa fd ∗ freeSlot c k'
      ∗ (∃ f, held c mS0 fullShare f) ∗ owes (c : Thread nD τ) 0 W)
      ∗ ((tab c mT0 t0 ∗ tab c mT3 t3 ∗ tab c mT4 t4
          ∗ (∃ f, held c mS0 fullShare (mS0.view.writes (Elt F) f [⟨Rect.unit ![0, 0] S1024x2048.size inb_S1024x2048_S1024x2048_0_0, wG c fa v5 he⟩]))
          ∗ (∃ f, heldOn c (slotG k) f) ∗ (∃ f, heldOn c (slotD k) (landD c k f (tileD c fd v5 he)))
          ∗ semVal ((c : Thread nD τ), cellG k) 0 ∗ semVal ((c : Thread nD τ), cellD k) 0
          ∗ ahead c k' nx fa fd ∗ (∃ W', owes (c : Thread nD τ) 0 W')) -∗ Q ⟨b, hk1⟩))
     ⊢ wp frame (wpE (defs₀ (F := F)) Variants.none c none) Set.univ
        (k0_part1 i mT0 (Memref.isWhole_whole _) mT1 (Memref.isWhole_whole _) mT2 (Memref.isWhole_whole _)
          mT3 (Memref.isWhole_whole _) mT4 (Memref.isWhole_whole _) x6 h6 mA6 (Memref.isWhole_whole _)
          x8 h8 mA8 (Memref.isWhole_whole _) x10 h10 x11 h11
          mS0 (Memref.isWhole_whole _) mS1 (Memref.isWhole_whole _)
          mS2 (Memref.isWhole_whole _) mS3 (Memref.isWhole_whole _)
          cc0_scratch4 (BitVec.ofNat 32 (i 0).val) v1 v5 v9 hc1) Q := by
  simp only [k0_part1_eq_skeleton]; unfold k0_part1_skel
  unfold smemLoad flySlot freeSlot
  rcases hk with ⟨rfl, rfl, rfl⟩ | ⟨rfl, rfl, rfl⟩ <;> by_cases h3 : k0_cond3 nx = 1#1 <;>
    simp only [cellG_0, cellG_1, cellD_0, cellD_1]
  all_goals
    iintro ⟨⟨T0, T3, T4, ⟨%h0, %g0, %d0, C8, A6, C9, A8⟩, ⟨⟨%g1, G1⟩, ⟨%d1, D1⟩, C10, C11⟩, ⟨%s0, S0⟩, HW⟩, HK⟩
    iapply (wp_word_bind c (M := mT3) _ (w3 _ _)) $$ T3; iintro T3; beta_reduce
    rw [lift_assume_bind]
    iapply (wp_assume _ _ _ _ hk1)
    sl_exec
    iapply (wp_word c (M := mT0) _ (w0' _ _)) $$ T0; iintro T0; beta_reduce
    sl_exec
    ihave A6 := (held_eq c (M := mA6) (q := fullShare) (rfl : fa = fa)) $$ A6
    ihave A8 := (held_eq c (M := mA8) (q := fullShare) (rfl : fd = fd)) $$ A8
    iapply (wp_word c (M := mT4) _ (w4 _ _)) $$ T4; iintro T4; beta_reduce
    first
    | (have hk5' := hk5 h3
       sl_exec
       iapply (wp_word c (M := mT4) _ (w4' _ _)) $$ T4; iintro T4; beta_reduce
       sl_exec)
    | sl_exec
    sl_step
    iapply HK
    isplitl [T0]; · iexact T0
    isplitl [T3]; · iexact T3
    isplitl [T4]; · iexact T4
    isplitl [S0]
    · iexists _
      iapply (held_eq c (congrArg (fun v => mS0.view.writes (Elt F) _ [⟨Rect.unit ![0, 0] S1024x2048.size inb_S1024x2048_S1024x2048_0_0, v⟩]) (loadG c _ _ _ _))) $$ S0
    isplitl [C8_dst]; · iexists _; iexact C8_dst
    isplitl [C9_dst]; · iexists _; iexact C9_dst
    isplitl [C8]; · iexact C8
    isplitl [C9]; · iexact C9
    isplitr [HW]
    swap; · iexists _; iexact HW
    unfold ahead
    first
    | (rw [if_pos h3]
       unfold flySlot
       iexists (hn h3), _, _
       simp only [cellG_0, cellG_1, cellD_0, cellD_1]
       isplitl [C10]; · iexact C10
       isplitl [A6]; · iexact A6
       isplitl [C11]; · iexact C11
       iexact A8)
    | (rw [if_neg h3]
       unfold freeSlot
       simp only [cellG_0, cellG_1, cellD_0, cellD_1]
       isplitr [A6 A8]
       · isplitl [G1]; · iexists _; iexact G1
         isplitl [D1]; · iexists _; iexact D1
         isplitl [C10]; · iexact C10
         iexact C11
       isplitl [A6]; · iexact A6
       iexact A8)

end Cert.Kernel2Ideal.Hand

end
-- ==== Proof.ExpertsBody.lean ====
module

public import proofs.«01_k».proof.Defs
public import proofs.«01_k».proof.Proof.ExpertsLater
public import Idealize.ShloMosaic.Lib.Pipeline.Value
public import Idealize.ShloMosaic.Lib.Pipeline.FrameBody
public import Idealize.ShloMosaic.Lib.Ring
public import Idealize.ShloMosaic.Lib.Tactic
public import Idealize.ShloMosaic.Lib.WordCmp

@[expose] public section

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (c : Dev nD)

/-- A buffer held whole where it reads as `x`. -/
abbrev reads {sp : Space} {S : Shape} {e : EltTy} (M : Memref sig .tc sp S e) (x : S.Idx → Elt F e) : sProp (Res F) :=
  iprop(∃ f : Cont (F := F) c M, ⌜M.view.read (Elt F) f = x⌝ ∗ held c M fullShare f)

abbrev rW0 : Rect S1024x2048 := Rect.unit (s := S1024x2048) ![0, 0] S1024x2048.size inb_S1024x2048_S1024x2048_0_0
abbrev rW1 : Rect S1024x1024 := Rect.unit (s := S1024x1024) ![0, 0] S1024x1024.size inb_S1024x1024_S1024x1024_0_0
abbrev rB0 : Rect S1x1x1x2048 := Rect.unit (s := S1x1x1x2048) ![0, 0, 0, 0] S1x1x1x2048.size inb_S1x1x1x2048_S1x1x1x2048_0_0_0_0
abbrev rB1 : Rect S1x1x1x1024 := Rect.unit (s := S1x1x1x1024) ![0, 0, 0, 0] S1x1x1x1024.size inb_S1x1x1x1024_S1x1x1x1024_0_0_0_0
abbrev rT1 : Rect S512x8x128 := Rect.unit (s := S512x8x128) ![0, 0, 0] S128x8x128.size inb_S512x8x128_S128x8x128_0_0_0
abbrev rT2 : Rect S512x8x128 := Rect.unit (s := S512x8x128) ![0, 0, 0] S256x8x128.size inb_S512x8x128_S256x8x128_0_0_0
abbrev rT3 : Rect S512x8x128 := Rect.unit (s := S512x8x128) ![0, 0, 0] S384x8x128.size inb_S512x8x128_S384x8x128_0_0_0
abbrev rT4 : Rect S512x8x128 := Rect.unit (s := S512x8x128) ![0, 0, 0] S512x8x128.size inb_S512x8x128_S512x8x128_0_0_0
abbrev rZ1 : Rect S512x8x128 := Rect.unit (s := S512x8x128) ![128, 0, 0] S384x8x128.size inb_S512x8x128_S384x8x128_128_0_0
abbrev rZ2 : Rect S512x8x128 := Rect.unit (s := S512x8x128) ![256, 0, 0] S256x8x128.size inb_S512x8x128_S256x8x128_256_0_0
abbrev rZ3 : Rect S512x8x128 := Rect.unit (s := S512x8x128) ![384, 0, 0] S128x8x128.size inb_S512x8x128_S128x8x128_384_0_0

/-- The zero the body fills with. -/
def zeroWord : F .f32 := Scalar.ofBits .f32 0x00000000#32

/-- What a block's `n` quarters leave: the layer's rows where a quarter is in use, zeros below. -/
def outB (n : BitVec 32) (x : Vec F S512x8x128 .f32) (wg : Vec F S1024x2048 .bf16) (bg : Vec F S1x1x1x2048 .f32)
    (wd : Vec F S1024x1024 .bf16) (bd : Vec F S1x1x1x1024 .f32) : Vec F S512x8x128 .f32 :=
  if n = 1#32 then View.canon [⟨rZ1, k0_pay2 zeroWord⟩, ⟨rT1, k0_pay8 (View.ld x rT1) (View.ld wg rW0) (View.ld bg rB0) (View.ld wd rW1) (View.ld bd rB1)⟩]
  else if n = 2#32 then View.canon [⟨rZ2, k0_pay3 zeroWord⟩, ⟨rT2, k0_pay9 (View.ld x rT2) (View.ld wg rW0) (View.ld bg rB0) (View.ld wd rW1) (View.ld bd rB1)⟩]
  else if n = 3#32 then View.canon [⟨rZ3, k0_pay4 zeroWord⟩, ⟨rT3, k0_pay10 (View.ld x rT3) (View.ld wg rW0) (View.ld bg rB0) (View.ld wd rW1) (View.ld bd rB1)⟩]
  else if n = 4#32 then View.canon [⟨rT4, k0_pay5 (View.ld x rT4) (View.ld wg rW0) (View.ld bg rB0) (View.ld wd rW1) (View.ld bd rB1)⟩]
  else View.canon [⟨rT4, k0_pay6 (F := F)⟩]

section
variable (x : Vec F S512x8x128 .f32) (wg : Vec F S1024x2048 .bf16) (bg : Vec F S1x1x1x2048 .f32)
  (wd : Vec F S1024x1024 .bf16) (bd : Vec F S1x1x1x1024 .f32)

theorem outB_0 : outB 0#32 x wg bg wd bd = View.canon [⟨rT4, k0_pay6 (F := F)⟩] := by
  unfold outB; rw [if_neg (by decide), if_neg (by decide), if_neg (by decide), if_neg (by decide)]
theorem outB_1 : outB 1#32 x wg bg wd bd = View.canon [⟨rZ1, k0_pay2 zeroWord⟩, ⟨rT1, k0_pay8 (View.ld x rT1) (View.ld wg rW0) (View.ld bg rB0) (View.ld wd rW1) (View.ld bd rB1)⟩] := by
  unfold outB; rw [if_pos rfl]
theorem outB_2 : outB 2#32 x wg bg wd bd = View.canon [⟨rZ2, k0_pay3 zeroWord⟩, ⟨rT2, k0_pay9 (View.ld x rT2) (View.ld wg rW0) (View.ld bg rB0) (View.ld wd rW1) (View.ld bd rB1)⟩] := by
  unfold outB; rw [if_neg (by decide), if_pos rfl]
theorem outB_3 : outB 3#32 x wg bg wd bd = View.canon [⟨rZ3, k0_pay4 zeroWord⟩, ⟨rT3, k0_pay10 (View.ld x rT3) (View.ld wg rW0) (View.ld bg rB0) (View.ld wd rW1) (View.ld bd rB1)⟩] := by
  unfold outB; rw [if_neg (by decide), if_neg (by decide), if_pos rfl]
theorem outB_4 : outB 4#32 x wg bg wd bd = View.canon [⟨rT4, k0_pay5 (View.ld x rT4) (View.ld wg rW0) (View.ld bg rB0) (View.ld wd rW1) (View.ld bd rB1)⟩] := by
  unfold outB; rw [if_neg (by decide), if_neg (by decide), if_neg (by decide), if_pos rfl]
end

theorem cover1 (p : Vec F S384x8x128 .f32) (q : Vec F S128x8x128 .f32) (y : S512x8x128.Idx) :
    ∃ pc ∈ ([⟨rZ1, p⟩, ⟨rT1, q⟩] : List (View.Piece (Elt F) S512x8x128 .f32)), y ∈ pc.1.set :=
  View.cover_of_tiledBy [⟨rZ1, p⟩, ⟨rT1, q⟩] S128x8x128.size (by sl_kernel_rfl) y
theorem cover2 (p : Vec F S256x8x128 .f32) (q : Vec F S256x8x128 .f32) (y : S512x8x128.Idx) :
    ∃ pc ∈ ([⟨rZ2, p⟩, ⟨rT2, q⟩] : List (View.Piece (Elt F) S512x8x128 .f32)), y ∈ pc.1.set :=
  View.cover_of_tiledBy [⟨rZ2, p⟩, ⟨rT2, q⟩] S128x8x128.size (by sl_kernel_rfl) y
theorem cover3 (p : Vec F S128x8x128 .f32) (q : Vec F S384x8x128 .f32) (y : S512x8x128.Idx) :
    ∃ pc ∈ ([⟨rZ3, p⟩, ⟨rT3, q⟩] : List (View.Piece (Elt F) S512x8x128 .f32)), y ∈ pc.1.set :=
  View.cover_of_tiledBy [⟨rZ3, p⟩, ⟨rT3, q⟩] S128x8x128.size (by sl_kernel_rfl) y
theorem cover4 (p : Vec F S512x8x128 .f32) (y : S512x8x128.Idx) :
    ∃ pc ∈ ([⟨rT4, p⟩] : List (View.Piece (Elt F) S512x8x128 .f32)), y ∈ pc.1.set :=
  View.cover_of_tiledBy [⟨rT4, p⟩] S128x8x128.size (by sl_kernel_rfl) y

set_option maxHeartbeats 4000000 in
/-- A block that keeps the weights it finds. -/
theorem keep_body (i : grid0.Coords) (x6 : Memref sig .tc .vmem S512x8x128 .f32) (h6 : x6.IsWhole)
    (x8 : Memref sig .tc .vmem S1x1x1x2048 .f32) (h8 : x8.IsWhole)
    (x10 : Memref sig .tc .vmem S1x1x1x1024 .f32) (h10 : x10.IsWhole)
    (x11 : Memref sig .tc .vmem S512x8x128 .f32) (h11 : x11.IsWhole)
    (t0 : Cont (F := F) c mT0) (t1 : Cont (F := F) c mT1)
    (v1 v5 v9 : BitVec 32) (hn : v1 = 0#32 ∨ v1 = 1#32 ∨ v1 = 2#32 ∨ v1 = 3#32 ∨ v1 = 4#32)
    (hc1 : ¬ k0_cond1 i v1 v5 v9 = 1#1)
    (w1 : IsWord c mT1 t1 (k0_off1 i) v1) (w5 : IsWord c mT0 t0 (k0_off1 i) v5) (w9 : IsWord c mT0 t0 (k0_off2 i) v9)
    (x : Vec F S512x8x128 .f32) (wg : Vec F S1024x2048 .bf16) (bg : Vec F S1x1x1x2048 .f32)
    (wd : Vec F S1024x1024 .bf16) (bd : Vec F S1x1x1x1024 .f32) (K : PUnit → sProp (Res F)) :
    iprop((tab c mT0 t0 ∗ tab c mT1 t1 ∗ reads c mS0 wg ∗ reads c mS1 wd ∗ reads c x6 x ∗ reads c x8 bg ∗ reads c x10 bd
        ∗ (∃ d, held c x11 fullShare d))
      ∗ ((tab c mT0 t0 ∗ tab c mT1 t1 ∗ reads c mS0 wg ∗ reads c mS1 wd ∗ reads c x6 x ∗ reads c x8 bg ∗ reads c x10 bd
        ∗ reads c x11 (outB v1 x wg bg wd bd)) -∗ K ⟨⟩))
     ⊢ wp frame (wpE (defs₀ (F := F)) Variants.none c none) Set.univ
        (cc0_moe_experts i mT0 (Memref.isWhole_whole _) mT1 (Memref.isWhole_whole _) mT2 (Memref.isWhole_whole _)
          mT3 (Memref.isWhole_whole _) mT4 (Memref.isWhole_whole _) x6 h6 mA6 (Memref.isWhole_whole _)
          x8 h8 mA8 (Memref.isWhole_whole _) x10 h10 x11 h11
          mS0 (Memref.isWhole_whole _) mS1 (Memref.isWhole_whole _)
          mS2 (Memref.isWhole_whole _) mS3 (Memref.isWhole_whole _) cc0_scratch4) K := by
  simp only [cc0_moe_experts_eq_skeleton]; unfold cc0_moe_experts_skel
  simp only [k0_part2_eq_skeleton, k0_part3_eq_skeleton, k0_part4_eq_skeleton]
  unfold smemLoad
  rcases hn with rfl | rfl | rfl | rfl | rfl
  all_goals
    iintro ⟨⟨T0, T1, ⟨%s0, %hs0, S0⟩, ⟨%s1, %hs1, S1⟩, ⟨%f6, %hf6, H6⟩, ⟨%f8, %hf8, H8⟩, ⟨%f10, %hf10, H10⟩, ⟨%f11, H11⟩⟩, HK⟩
    subst hs0 hs1 hf6 hf8 hf10
    iapply (wp_word_bind c (M := mT1) _ (w1 _ _)) $$ T1; iintro T1; beta_reduce
    iapply (wp_word_bind c (M := mT0) _ (w5 _ _)) $$ T0; iintro T0; beta_reduce
    iapply (wp_word_bind c (M := mT0) _ (w9 _ _)) $$ T0; iintro T0; beta_reduce
    sl_exec
    sl_step
    iapply HK
    isplitl [T0]; · iexact T0
    isplitl [T1]; · iexact T1
    isplitl [S0]; · iexists _; isplitr; · ipureintro; rfl
                    iexact S0
    isplitl [S1]; · iexists _; isplitr; · ipureintro; rfl
                    iexact S1
    isplitl [H6]; · iexists _; isplitr; · ipureintro; rfl
                    iexact H6
    isplitl [H8]; · iexists _; isplitr; · ipureintro; rfl
                    iexact H8
    isplitl [H10]; · iexists _; isplitr; · ipureintro; rfl
                     iexact H10
    iexists _; isplitr
    swap; · iexact H11
    ipureintro
  · exact (View.read_writes_eq_canon _ _ _ (cover4 _)).trans (outB_0 ..).symm
  · exact (View.read_writes_eq_canon _ _ _ (cover1 _ _)).trans (outB_1 ..).symm
  · exact (View.read_writes_eq_canon _ _ _ (cover2 _ _)).trans (outB_2 ..).symm
  · exact (View.read_writes_eq_canon _ _ _ (cover3 _ _)).trans (outB_3 ..).symm
  · exact (View.read_writes_eq_canon _ _ _ (cover4 _)).trans (outB_4 ..).symm

/-- The down weights of expert `w` as the body rounds them. -/
def wD (fd : Cont (F := F) c mA8) (w : BitVec 32) (h : w.toNat < 32) : Vec F S1024x1024 .bf16 :=
  roundD (tileD c fd w h)

theorem off0 : (![0, 0] : Fin 2 → Nat) = fun _ => 0 := by funext a; fin_cases a <;> rfl

theorem read_store {S : Shape} {e : EltTy} (v : View sig .tc .vmem S e) (f : v.ty.Contents (Elt F)) {off : Fin S.rank → Nat}
    (h : off = fun _ => 0) (inb : ∀ a, off a + S.size a ≤ S.size a) (y : S.Idx → Elt F e) :
    v.read (Elt F) (v.writes (Elt F) f [⟨Rect.unit off S.size inb, y⟩]) = y :=
  (View.read_writes_eq_canon _ _ _ fun j => ⟨_, List.mem_singleton_self _, View.mem_set_unit_zero h inb j⟩).trans
    (View.canon_unit_zero h inb y)

theorem ld0 (y : Vec F S1024x2048 .bf16) : mS0.view.readCov [⟨rW0, y⟩] rW0.toLoadRect = View.ld y rW0 :=
  (View.readCov_unit_zero (S := S1024x2048) _ off0 _ y).trans (View.ld_unit_zero (S := S1024x2048) off0 _ y).symm
theorem ld1 {y y' : Vec F S1024x1024 .bf16} (h : y = y') :
    mS1.view.readCov [⟨rW1, y⟩] rW1.toLoadRect = View.ld y' rW1 := by
  subst h; exact (View.readCov_unit_zero (S := S1024x1024) _ off0 _ y).trans (View.ld_unit_zero (S := S1024x1024) off0 _ y).symm

theorem canonEq1 {A : Vec F S128x8x128 .f32} {a a' : Vec F S1024x2048 .bf16} {B : Vec F S1x1x1x2048 .f32} {b b' : Vec F S1024x1024 .bf16} {C : Vec F S1x1x1x1024 .f32} (ha : a = a') (hb : b = b') :
    View.canon ([⟨rZ1, k0_pay2 zeroWord⟩, ⟨rT1, k0_pay8 A a B b C⟩] : List (View.Piece (Elt F) S512x8x128 .f32))
      = View.canon [⟨rZ1, k0_pay2 zeroWord⟩, ⟨rT1, k0_pay8 A a' B b' C⟩] := by subst ha hb; rfl
theorem canonEq2 {A : Vec F S256x8x128 .f32} {a a' : Vec F S1024x2048 .bf16} {B : Vec F S1x1x1x2048 .f32} {b b' : Vec F S1024x1024 .bf16} {C : Vec F S1x1x1x1024 .f32} (ha : a = a') (hb : b = b') :
    View.canon ([⟨rZ2, k0_pay3 zeroWord⟩, ⟨rT2, k0_pay9 A a B b C⟩] : List (View.Piece (Elt F) S512x8x128 .f32))
      = View.canon [⟨rZ2, k0_pay3 zeroWord⟩, ⟨rT2, k0_pay9 A a' B b' C⟩] := by subst ha hb; rfl
theorem canonEq3 {A : Vec F S384x8x128 .f32} {a a' : Vec F S1024x2048 .bf16} {B : Vec F S1x1x1x2048 .f32} {b b' : Vec F S1024x1024 .bf16} {C : Vec F S1x1x1x1024 .f32} (ha : a = a') (hb : b = b') :
    View.canon ([⟨rZ3, k0_pay4 zeroWord⟩, ⟨rT3, k0_pay10 A a B b C⟩] : List (View.Piece (Elt F) S512x8x128 .f32))
      = View.canon [⟨rZ3, k0_pay4 zeroWord⟩, ⟨rT3, k0_pay10 A a' B b' C⟩] := by subst ha hb; rfl
theorem canonEq4 {A : Vec F S512x8x128 .f32} {a a' : Vec F S1024x2048 .bf16} {B : Vec F S1x1x1x2048 .f32} {b b' : Vec F S1024x1024 .bf16} {C : Vec F S1x1x1x1024 .f32} (ha : a = a') (hb : b = b') :
    View.canon ([⟨rT4, k0_pay5 A a B b C⟩] : List (View.Piece (Elt F) S512x8x128 .f32)) = View.canon [⟨rT4, k0_pay5 A a' B b' C⟩] := by subst ha hb; rfl

set_option maxHeartbeats 4000000 in
/-- A block that takes new weights, whatever part of the machine its first half moves them in. -/
theorem switch_body (i : grid0.Coords) (x6 : Memref sig .tc .vmem S512x8x128 .f32) (h6 : x6.IsWhole)
    (x8 : Memref sig .tc .vmem S1x1x1x2048 .f32) (h8 : x8.IsWhole)
    (x10 : Memref sig .tc .vmem S1x1x1x1024 .f32) (h10 : x10.IsWhole)
    (x11 : Memref sig .tc .vmem S512x8x128 .f32) (h11 : x11.IsWhole)
    (t0 : Cont (F := F) c mT0) (t1 : Cont (F := F) c mT1) (fa : Cont (F := F) c mA6) (fd : Cont (F := F) c mA8)
    (v1 v5 v9 b : BitVec 32) (hn : v1 = 1#32 ∨ v1 = 2#32 ∨ v1 = 3#32 ∨ v1 = 4#32)
    (k : Fin 2) (hk : (b = 0#32 ∧ k = 0) ∨ (b = 1#32 ∧ k = 1))
    (hc1 : k0_cond1 i v1 v5 v9 = 1#1) (hk1 : k0_chk1 i v1 v5 v9 b) (he : v5.toNat < 32)
    (w1 : IsWord c mT1 t1 (k0_off1 i) v1) (w5 : IsWord c mT0 t0 (k0_off1 i) v5) (w9 : IsWord c mT0 t0 (k0_off2 i) v9)
    (P R : sProp (Res F))
    (hp : ∀ Q : (Σ' (v31 : Elt F .i32), k0_chk1 i v1 v5 v9 v31) → sProp (Res F),
      iprop((tab c mT0 t0 ∗ P)
        ∗ ((tab c mT0 t0 ∗ R
          ∗ (∃ f, held c mS0 fullShare (mS0.view.writes (Elt F) f [⟨Rect.unit ![0, 0] S1024x2048.size inb_S1024x2048_S1024x2048_0_0, wG c fa v5 he⟩]))
          ∗ (∃ f, heldOn c (slotG k) f) ∗ (∃ f, heldOn c (slotD k) (landD c k f (tileD c fd v5 he)))) -∗ Q ⟨b, hk1⟩))
       ⊢ wp frame (wpE (defs₀ (F := F)) Variants.none c none) Set.univ
        (k0_part1 i mT0 (Memref.isWhole_whole _) mT1 (Memref.isWhole_whole _) mT2 (Memref.isWhole_whole _)
          mT3 (Memref.isWhole_whole _) mT4 (Memref.isWhole_whole _) x6 h6 mA6 (Memref.isWhole_whole _)
          x8 h8 mA8 (Memref.isWhole_whole _) x10 h10 x11 h11
          mS0 (Memref.isWhole_whole _) mS1 (Memref.isWhole_whole _)
          mS2 (Memref.isWhole_whole _) mS3 (Memref.isWhole_whole _)
          cc0_scratch4 (BitVec.ofNat 32 (i 0).val) v1 v5 v9 hc1) Q)
    (x : Vec F S512x8x128 .f32) (bg : Vec F S1x1x1x2048 .f32) (bd : Vec F S1x1x1x1024 .f32) (K : PUnit → sProp (Res F)) :
    iprop((tab c mT0 t0 ∗ tab c mT1 t1 ∗ P ∗ (∃ f, held c mS1 fullShare f) ∗ reads c x6 x ∗ reads c x8 bg ∗ reads c x10 bd
        ∗ (∃ d, held c x11 fullShare d))
      ∗ ((tab c mT0 t0 ∗ tab c mT1 t1 ∗ R ∗ reads c mS0 (wG c fa v5 he) ∗ reads c mS1 (wD c fd v5 he)
        ∗ (∃ f, heldOn c (slotG k) f) ∗ (∃ f, heldOn c (slotD k) f) ∗ reads c x6 x ∗ reads c x8 bg ∗ reads c x10 bd
        ∗ reads c x11 (outB v1 x (wG c fa v5 he) bg (wD c fd v5 he) bd)) -∗ K ⟨⟩))
     ⊢ wp frame (wpE (defs₀ (F := F)) Variants.none c none) Set.univ
        (cc0_moe_experts i mT0 (Memref.isWhole_whole _) mT1 (Memref.isWhole_whole _) mT2 (Memref.isWhole_whole _)
          mT3 (Memref.isWhole_whole _) mT4 (Memref.isWhole_whole _) x6 h6 mA6 (Memref.isWhole_whole _)
          x8 h8 mA8 (Memref.isWhole_whole _) x10 h10 x11 h11
          mS0 (Memref.isWhole_whole _) mS1 (Memref.isWhole_whole _)
          mS2 (Memref.isWhole_whole _) mS3 (Memref.isWhole_whole _) cc0_scratch4) K := by
  simp only [cc0_moe_experts_eq_skeleton]; unfold cc0_moe_experts_skel
  simp only [k0_part2_eq_skeleton, k0_part3_eq_skeleton, k0_part4_eq_skeleton]
  unfold smemLoad
  rcases hk with ⟨rfl, rfl⟩ | ⟨rfl, rfl⟩ <;> rcases hn with rfl | rfl | rfl | rfl
  all_goals
    iintro ⟨⟨T0, T1, HP, ⟨%s1, S1⟩, ⟨%f6, %hf6, H6⟩, ⟨%f8, %hf8, H8⟩, ⟨%f10, %hf10, H10⟩, ⟨%f11, H11⟩⟩, HK⟩
    subst hf6 hf8 hf10
    iapply (wp_word_bind c (M := mT1) _ (w1 _ _)) $$ T1; iintro T1; beta_reduce
    iapply (wp_word_bind c (M := mT0) _ (w5 _ _)) $$ T0; iintro T0; beta_reduce
    iapply (wp_word_bind c (M := mT0) _ (w9 _ _)) $$ T0; iintro T0; beta_reduce
    simp only [dif_pos hc1]
    rw [wp_bind]
    iapply (hp _)
    isplitl [T0 HP]
    · isplitl [T0]; · iexact T0
      iexact HP
    iintro ⟨T0, HR, ⟨%g0, S0⟩, ⟨%g2, G⟩, ⟨%g3, D⟩⟩
    sl_exec
    sl_step
    iapply HK
    isplitl [T0]; · iexact T0
    isplitl [T1]; · iexact T1
    isplitl [HR]; · iexact HR
    isplitl [S0]
    · iexists _; isplitr
      swap; · iexact S0
      ipureintro; exact read_store mS0.view _ off0 _ _
    isplitl [S1]
    · iexists _; isplitr
      swap; · iexact S1
      ipureintro; exact (read_store mS1.view _ off0 _ _).trans (loadD c _ _ _ _)
    isplitl [G]; · iexists _; iexact G
    isplitl [D]; · iexists _; iexact D
    isplitl [H6]; · iexists _; isplitr; · ipureintro; rfl
                    iexact H6
    isplitl [H8]; · iexists _; isplitr; · ipureintro; rfl
                    iexact H8
    isplitl [H10]; · iexists _; isplitr; · ipureintro; rfl
                     iexact H10
    iexists _; isplitr
    swap; · iexact H11
    ipureintro
  · exact (View.read_writes_eq_canon _ _ _ (cover1 _ _)).trans ((canonEq1 (ld0 _) (ld1 (loadD c 0 _ _ _))).trans (outB_1 ..).symm)
  · exact (View.read_writes_eq_canon _ _ _ (cover2 _ _)).trans ((canonEq2 (ld0 _) (ld1 (loadD c 0 _ _ _))).trans (outB_2 ..).symm)
  · exact (View.read_writes_eq_canon _ _ _ (cover3 _ _)).trans ((canonEq3 (ld0 _) (ld1 (loadD c 0 _ _ _))).trans (outB_3 ..).symm)
  · exact (View.read_writes_eq_canon _ _ _ (cover4 _)).trans ((canonEq4 (ld0 _) (ld1 (loadD c 0 _ _ _))).trans (outB_4 ..).symm)
  · exact (View.read_writes_eq_canon _ _ _ (cover1 _ _)).trans ((canonEq1 (ld0 _) (ld1 (loadD c 1 _ _ _))).trans (outB_1 ..).symm)
  · exact (View.read_writes_eq_canon _ _ _ (cover2 _ _)).trans ((canonEq2 (ld0 _) (ld1 (loadD c 1 _ _ _))).trans (outB_2 ..).symm)
  · exact (View.read_writes_eq_canon _ _ _ (cover3 _ _)).trans ((canonEq3 (ld0 _) (ld1 (loadD c 1 _ _ _))).trans (outB_3 ..).symm)
  · exact (View.read_writes_eq_canon _ _ _ (cover4 _)).trans ((canonEq4 (ld0 _) (ld1 (loadD c 1 _ _ _))).trans (outB_4 ..).symm)

end Cert.Kernel2Ideal.Hand

end
-- ==== Proof.ExpertsSched.lean ====
module

public import proofs.«01_k».proof.Proof.ExpertsBody
public import Idealize.ShloMosaic.Lib.ReduceAll
public import Idealize.ShloMosaic.Lib.Pointwise

@[expose] public section

noncomputable section

namespace Cert.Schedule

open Idealize.ShloMosaic

abbrev S128 : Shape := ⟨1, ![128]⟩
abbrev S1 : Shape := ⟨1, ![1]⟩

/-- Entry `t` of a table of one word per block. -/
def at128 (t : ℕ) : S128.Idx := ix1 ⟨t % 128, Nat.mod_lt _ (by decide)⟩

/-- What the schedule promises: `E` the blocks' experts, `N` their counts of filled quarters, `L` the last block
    in use, `B` the slot of each block's weights, `X` the next expert after the block's. -/
structure Sched (E N : S128.Idx → BitVec 32) (L : S1.Idx → BitVec 32) (B X : S128.Idx → BitVec 32) : Prop where
  e_lt : ∀ t : S128.Idx, (E t).toNat < 32
  n_le : ∀ t : S128.Idx, (N t).toNat ≤ 4
  b_le : ∀ t : S128.Idx, (B t).toNat ≤ 1
  x_lt : ∀ t : S128.Idx, 0 ≤ (X t).toInt → (X t).toNat < 32
  l_lt : (L (ix1 0)).toNat < 128
  used : ∀ t : S128.Idx, 0 < (N t).toNat → (t 0).val ≤ (L (ix1 0)).toNat
  first : 0 < (N (at128 0)).toNat
  last : (X (at128 127)).toInt < 0
  keep : ∀ t < 127, E (at128 (t + 1)) = E (at128 t) → B (at128 (t + 1)) = B (at128 t) ∧ X (at128 (t + 1)) = X (at128 t)
  turn : ∀ t < 127, E (at128 (t + 1)) ≠ E (at128 t) →
    0 < (N (at128 (t + 1))).toNat ∧ (B (at128 (t + 1))).toNat = 1 - (B (at128 t)).toNat ∧ X (at128 t) = E (at128 (t + 1))

theorem and_one {a b : BitVec 1} (h : IntOp.andi a b = 1#1) : a = 1#1 ∧ b = 1#1 := by
  revert a b; decide
theorem or_one {a b : BitVec 1} (h : IntOp.ori a b = 1#1) : a = 1#1 ∨ b = 1#1 := by
  revert a b; decide

theorem pick_one (x y : BitVec 1) : Scalar.select 1#1 x y = x := rfl
theorem pick_zero (x y : BitVec 1) : Scalar.select 0#1 x y = y := rfl

theorem bit_one (b : Bool) : BitVec.ofBool b = 1#1 ↔ b = true := by cases b <;> decide

theorem ge_of {a b : BitVec 32} (h : IntOp.cmpi .sge a b = 1#1) : b.toInt ≤ a.toInt := by
  simpa [IntOp.cmpi, BitVec.sle_eq_decide, bit_one] using h
theorem gt_of {a b : BitVec 32} (h : IntOp.cmpi .sgt a b = 1#1) : b.toInt < a.toInt := by
  simpa [IntOp.cmpi, BitVec.slt_eq_decide, bit_one] using h
theorem le_of {a b : BitVec 32} (h : IntOp.cmpi .sle a b = 1#1) : a.toInt ≤ b.toInt := by
  simpa [IntOp.cmpi, BitVec.sle_eq_decide, bit_one] using h
theorem lt_of {a b : BitVec 32} (h : IntOp.cmpi .slt a b = 1#1) : a.toInt < b.toInt := by
  simpa [IntOp.cmpi, BitVec.slt_eq_decide, bit_one] using h
theorem eq_of {a b : BitVec 32} (h : IntOp.cmpi .eq a b = 1#1) : a = b := by
  simpa [IntOp.cmpi, bit_one] using h

theorem toNat_bounds {a : BitVec 32} {n : ℕ} (h0 : 0 ≤ a.toInt) (h1 : a.toInt ≤ n) : a.toNat ≤ n := by
  rw [BitVec.toInt_eq_toNat_cond] at h0 h1
  have := a.isLt
  split at h0 <;> omega

theorem toInt_small {a : BitVec 32} (h : a.toNat < 1024) : a.toInt = a.toNat := by
  rw [BitVec.toInt_eq_toNat_cond, if_pos (by omega)]

theorem toNat_word {n : ℕ} (h : n < 1024) : (BitVec.ofNat 32 n).toNat = n := by
  rw [BitVec.toNat_ofNat]; exact Nat.mod_eq_of_lt (by omega)

theorem toInt_word {n : ℕ} (h : n < 1024) : (BitVec.ofNat 32 n).toInt = n := by
  rw [toInt_small (by rw [toNat_word h]; exact h), toNat_word h]

open Cert.Pre_schedule in
instance : Subsingleton Pre_schedule.S_.Idx := ⟨fun a b => funext fun i => i.elim0⟩

section
open Cert.Pre_schedule
variable [Pre_schedule.Facts] {F : FTy → Type} [FloatOps F]
open Pre_schedule.Facts

/-- The stated precondition promises the schedule. -/
theorem sched_of (E N : IVec S128 32) (L : IVec S1 32) (B X : IVec S128 32) (a5 a6 a7 a8 a9)
    (h : Pre_schedule.fn (F := F) E N L B X a5 a6 a7 a8 a9 = fun _ => 1#1) : Sched E N L B X := by
  have e := congrFun h (Shape.Idx.first h_S_)
  obtain ⟨e, e80⟩ := and_one e
  obtain ⟨e, e77⟩ := and_one e
  obtain ⟨e, e70⟩ := and_one e
  obtain ⟨e, e63⟩ := and_one e
  obtain ⟨e, e56⟩ := and_one e
  obtain ⟨e, e49⟩ := and_one e
  obtain ⟨e, e42⟩ := and_one e
  obtain ⟨e29, e35⟩ := and_one e
  have e29 := fun i => Host.reduce_andi_all _ _ _ _ _ e29 i
  have e35 := fun i => Host.reduce_andi_all _ _ _ _ _ e35 i
  have e42 := fun i => Host.reduce_andi_all _ _ _ _ _ e42 i
  have e49 := fun i => Host.reduce_andi_all _ _ _ _ _ e49 i
  have e56 := fun i => Host.reduce_andi_all _ _ _ _ _ e56 i
  have e63 := fun i => Host.reduce_andi_all _ _ _ _ _ e63 i
  have e70 := fun i => Host.reduce_andi_all _ _ _ _ _ e70 i
  have e77 := fun i => Host.reduce_andi_all _ _ _ _ _ e77 i
  have e80 := fun i => Host.reduce_andi_all _ _ _ _ _ e80 i
  have hN : ∀ t, (N t).toNat ≤ 4 := fun t => by
    obtain ⟨h1, h2⟩ := and_one (e35 t)
    exact toNat_bounds (ge_of h1) (le_of h2)
  have hB : ∀ t, (B t).toNat ≤ 1 := fun t => by
    obtain ⟨h1, h2⟩ := and_one (e42 t)
    exact toNat_bounds (ge_of h1) (le_of h2)
  have hL : (L (ix1 0)).toNat < 128 := by
    obtain ⟨h1, h2⟩ := and_one (e56 (ix1 0))
    have h2 : (L (ix1 0)).toInt < 128 := lt_of h2
    exact Nat.lt_succ_of_le (toNat_bounds (n := 127) (ge_of h1) (by omega))
  have pos : ∀ t, (0#32).toInt < (N t).toInt → 0 < (N t).toNat := fun t h => by
    rw [toInt_small (a := N t) (by have := hN t; omega)] at h
    have : ((0#32 : BitVec 32)).toInt = 0 := by decide
    omega
  have hs : ∀ t (ht : t < 127), ∃ i : S127.Idx, (∀ x : IVec S128 32, extractStridedSlice S127 ![1] x slices_S128_S127_1 i = x (at128 (t + 1)))
      ∧ ∀ x : IVec S128 32, extractStridedSlice S127 ![0] x slices_S128_S127_0 i = x (at128 t) := fun t ht => by
    refine ⟨ix1 ⟨t, ht⟩, fun x => congrArg x ?_, fun x => congrArg x ?_⟩
    · funext a; fin_cases a; apply Fin.ext
      show 1 + t = (t + 1) % 128; omega
    · funext a; fin_cases a; apply Fin.ext
      show 0 + t = t % 128; omega
  have hw : ∀ t (ht : t < 127), (E (at128 (t + 1)) = E (at128 t) → B (at128 (t + 1)) = B (at128 t) ∧ X (at128 (t + 1)) = X (at128 t))
      ∧ (E (at128 (t + 1)) ≠ E (at128 t) →
        0 < (N (at128 (t + 1))).toNat ∧ (B (at128 (t + 1))).toNat = 1 - (B (at128 t)).toNat ∧ X (at128 t) = E (at128 (t + 1))) := fun t ht => by
    obtain ⟨i, s1, s0⟩ := hs t ht
    have b := e80 i
    have b : Scalar.select (IntOp.cmpi .eq (E (at128 (t + 1))) (E (at128 t)))
        (IntOp.andi (IntOp.cmpi .eq (B (at128 (t + 1))) (B (at128 t))) (IntOp.cmpi .eq (X (at128 (t + 1))) (X (at128 t))))
        (IntOp.andi (IntOp.andi (IntOp.cmpi .sgt (N (at128 (t + 1))) 0#32)
            (IntOp.cmpi .eq (B (at128 (t + 1))) (IntOp.subi 1#32 (B (at128 t)))))
          (IntOp.cmpi .eq (X (at128 t)) (E (at128 (t + 1))))) = 1#1 := by
      rw [← s1 E, ← s0 E, ← s1 B, ← s0 B, ← s1 X, ← s0 X, ← s1 N]
      exact b
    constructor
    · intro he
      rw [he] at b
      have : IntOp.cmpi .eq (E (at128 t)) (E (at128 t)) = 1#1 := by simp [IntOp.cmpi]
      rw [this, Cert.Schedule.pick_one] at b
      obtain ⟨b1, b2⟩ := and_one b
      exact ⟨eq_of b1, eq_of b2⟩
    · intro he
      have : IntOp.cmpi .eq (E (at128 (t + 1))) (E (at128 t)) = 0#1 := by
        show BitVec.ofBool (E (at128 (t + 1)) == E (at128 t)) = 0#1
        rw [beq_false_of_ne he]; rfl
      rw [this, Cert.Schedule.pick_zero] at b
      obtain ⟨b, b3⟩ := and_one b
      obtain ⟨b1, b2⟩ := and_one b
      refine ⟨pos _ (gt_of b1), ?_, eq_of b3⟩
      rw [eq_of b2]
      have := hB (at128 t)
      show (1#32 - B (at128 t)).toNat = _
      rw [BitVec.toNat_sub]
      show (2 ^ 32 - (B (at128 t)).toNat + 1) % 2 ^ 32 = 1 - (B (at128 t)).toNat
      omega
  refine ⟨fun t => ?_, hN, hB, fun t h0 => ?_, hL, fun t hn => ?_, ?_, ?_, fun t ht => (hw t ht).1, fun t ht => (hw t ht).2⟩
  · obtain ⟨h1, h2⟩ := and_one (e29 t)
    have h2 : (E t).toInt < 32 := lt_of h2
    exact Nat.lt_succ_of_le (toNat_bounds (n := 31) (ge_of h1) (by omega))
  · obtain ⟨h1, h2⟩ := and_one (e49 t)
    have h2 : (X t).toInt < 32 := lt_of h2
    exact Nat.lt_succ_of_le (toNat_bounds (n := 31) h0 (by omega))
  · rcases or_one (e63 t) with b | b
    · have b : (N t).toInt ≤ 0 := le_of b
      rw [toInt_small (by have := hN t; omega)] at b
      omega
    · have b : (BitVec.ofNat 32 (t 0).val).toInt ≤ (broadcastInDim S128 ![0] bcast_S1_S128_0 L t).toInt := le_of b
      have e : broadcastInDim S128 ![0] bcast_S1_S128_0 L t = L (ix1 0) :=
        congrArg L (funext fun a => by fin_cases a; exact Subsingleton.elim (α := Fin 1) _ _)
      have h0 : (t 0).val < 128 := (t 0).isLt
      rw [e, toInt_word (by omega), toInt_small (by omega)] at b
      omega
  · rcases or_one (e70 (at128 0)) with b | b
    · have b : (0#32).toInt < (0#32).toInt := gt_of b
      exact absurd b (by decide)
    · exact pos _ (gt_of b)
  · rcases or_one (e77 (at128 127)) with b | b
    · have b : (127#32).toInt < (127#32).toInt := lt_of b
      exact absurd b (by decide)
    · exact lt_of b

end

end Cert.Schedule
-- ==== Proof.ExpertsTables.lean ====
module

public import proofs.«01_k».proof.Proof.ExpertsSched

@[expose] public section

noncomputable section

namespace Cert.Kernel2Ideal.Hand

open Cert.Kernel2Ideal Cert.Kernel2Ideal.Gen Cert.Schedule
open Idealize.ShloMosaic Idealize.ShloMosaic.TcCoe
open Idealize.SL Idealize.SL.Sem

variable {F : FTy → Type} [FloatOps F]

/-! ## The words a point reads -/

theorem off_self (i : grid0.Coords) {n : ℕ} (h : (i 0).val = n) (hn : n < 128) : (BitVec.ofNat 32 (i 0).val).toNat = n := by
  rw [h, toNat_word (by omega)]

theorem off1_at (i : grid0.Coords) {n : ℕ} (h : (i 0).val = n) (hn : n < 128) : k0_off1 i = ![n] :=
  congrArg (fun x : ℕ => (![x] : Fin 1 → ℕ)) (off_self i h hn)

theorem off2_at (i : grid0.Coords) {n : ℕ} (h : (i 0).val = n + 1) (hn : n + 1 < 128) : k0_off2 i = ![n] := by
  refine congrArg (fun x : ℕ => (![x] : Fin 1 → ℕ)) ?_
  show (Scalar.indexCast (Scalar.maxsi (Scalar.subi (BitVec.ofNat 32 (i 0).val) 1#32) 0#32)).toNat = n
  rw [h]
  have e : Scalar.subi (BitVec.ofNat 32 (n + 1)) 1#32 = BitVec.ofNat 32 n := by
    apply BitVec.eq_of_toNat_eq
    show (BitVec.ofNat 32 (n + 1) - 1#32).toNat = _
    rw [BitVec.toNat_sub, toNat_word (n := n + 1) (by omega), toNat_word (n := n) (by omega)]
    show (2 ^ 32 - 1 + (n + 1)) % 2 ^ 32 = n
    omega
  rw [e]
  have m : Scalar.maxsi (BitVec.ofNat 32 n) 0#32 = BitVec.ofNat 32 n := by
    show IntOp.maxsi _ _ = _
    show (if _ then _ else _) = _
    split
    · rfl
    · rename_i h
      rw [BitVec.slt_eq_decide, toInt_word (n := n) (by omega)] at h
      have h : ¬ ((0 : ℤ) < n) := fun h' => h (decide_eq_true h')
      have : n = 0 := by omega
      subst this; rfl
  rw [m]
  exact toNat_word (by omega)

theorem off2_zero (i : grid0.Coords) (h : (i 0).val = 0) : k0_off2 i = ![0] := by
  refine congrArg (fun x : ℕ => (![x] : Fin 1 → ℕ)) ?_
  show (Scalar.indexCast (Scalar.maxsi (Scalar.subi (BitVec.ofNat 32 (i 0).val) 1#32) 0#32)).toNat = 0
  rw [h]; rfl

theorem emb_at128 (n : ℕ) (hn : n < 128) (off : Fin 1 → ℕ) (ho : off = ![n]) (h : ∀ a, off a + S1.size a ≤ S128.size a) (x : S1.Idx) :
    (Rect.unit (s := S128) off S1.size h).emb x = at128 n := by
  subst ho
  funext a; fin_cases a; apply Fin.ext
  have : (x 0).val = 0 := Nat.lt_one_iff.1 (x 0).isLt
  show n + 1 * (x 0).val = n % 128
  rw [this, Nat.mod_eq_of_lt hn]; rfl

theorem word_at (c : Dev nD) (M : Memref sig .tc .smem S128 .i32) (T : S128.Idx → BitVec 32) (f : Cont (F := F) c M)
    (hf : ∀ (r : Rect S128) (x : r.shape.Idx), (M.access r).read (Elt F) f x = T (r.emb x)) {off : Fin 1 → ℕ} {n : ℕ} (hn : n < 128)
    (ho : off = ![n]) : IsWord c M f off (T (at128 n)) := fun h x =>
  ((hf _ _).trans (congrArg T (emb_at128 n hn off ho h x))).symm

theorem word0 (c : Dev nD) (T : S128.Idx → BitVec 32) {off : Fin 1 → ℕ} {n : ℕ} (hn : n < 128)
    (ho : off = ![n]) : IsWord (F := F) c mT0 T off (T (at128 n)) := word_at c mT0 T T (fun _ _ => rfl) hn ho
theorem word1 (c : Dev nD) (T : S128.Idx → BitVec 32) {off : Fin 1 → ℕ} {n : ℕ} (hn : n < 128)
    (ho : off = ![n]) : IsWord (F := F) c mT1 T off (T (at128 n)) := word_at c mT1 T T (fun _ _ => rfl) hn ho
theorem word3 (c : Dev nD) (T : S128.Idx → BitVec 32) {off : Fin 1 → ℕ} {n : ℕ} (hn : n < 128)
    (ho : off = ![n]) : IsWord (F := F) c mT3 T off (T (at128 n)) := word_at c mT3 T T (fun _ _ => rfl) hn ho
theorem word4 (c : Dev nD) (T : S128.Idx → BitVec 32) {off : Fin 1 → ℕ} {n : ℕ} (hn : n < 128)
    (ho : off = ![n]) : IsWord (F := F) c mT4 T off (T (at128 n)) := word_at c mT4 T T (fun _ _ => rfl) hn ho

/-! ## The conditions -/

theorem bit_id (b : BitVec 1) : Scalar.cmpi .ne (Scalar.extui b : BitVec 32) 0#32 = b := by
  revert b; decide

theorem cond2_iff (i : grid0.Coords) : k0_cond2 i = 1#1 ↔ (i 0).val = 0 := by
  have h0 : (i 0).val < 128 := (i 0).isLt
  show Scalar.cmpi .ne (Scalar.extui (Scalar.cmpi .eq (BitVec.ofNat 32 (i 0).val) 0#32) : BitVec 32) 0#32 = 1#1 ↔ _
  rw [bit_id]
  constructor
  · intro h
    have := congrArg BitVec.toNat (eq_of h)
    rwa [toNat_word (by omega)] at this
  · intro h; rw [h]; decide

theorem cond3_iff (x : BitVec 32) : k0_cond3 x = 1#1 ↔ 0 ≤ x.toInt := by
  show Scalar.cmpi .ne (Scalar.extui (Scalar.cmpi .sge x 0#32) : BitVec 32) 0#32 = 1#1 ↔ _
  rw [bit_id]
  show BitVec.ofBool ((0#32).sle x) = 1#1 ↔ _
  rw [bit_one, BitVec.sle_eq_decide, decide_eq_true_iff]
  rfl

theorem cond1_eq (i : grid0.Coords) (v1 v5 v9 : BitVec 32) : k0_cond1 i v1 v5 v9
    = IntOp.andi (IntOp.cmpi .sgt v1 0#32) (IntOp.ori (IntOp.cmpi .eq (BitVec.ofNat 32 (i 0).val) 0#32) (IntOp.cmpi .ne v5 v9)) :=
  bit_id _

theorem sgt_one {v : BitVec 32} (h0 : 0 < v.toNat) (h4 : v.toNat ≤ 4) : IntOp.cmpi .sgt v 0#32 = 1#1 := by
  show BitVec.ofBool ((0#32).slt v) = 1#1
  rw [bit_one, BitVec.slt_eq_decide, decide_eq_true_iff, toInt_small (a := v) (by omega)]
  show (0 : ℤ) < _
  omega

theorem cond1_first (i : grid0.Coords) (hi : (i 0).val = 0) {v1 v5 v9 : BitVec 32} (h0 : 0 < v1.toNat) (h4 : v1.toNat ≤ 4) :
    k0_cond1 i v1 v5 v9 = 1#1 := by
  rw [cond1_eq, sgt_one h0 h4, hi]
  have e : IntOp.cmpi .eq (BitVec.ofNat 32 0) 0#32 = 1#1 := by decide
  rw [e]
  generalize IntOp.cmpi .ne v5 v9 = b
  revert b; decide

theorem cond1_turn (i : grid0.Coords) {v1 v5 v9 : BitVec 32} (h0 : 0 < v1.toNat) (h4 : v1.toNat ≤ 4) (he : v5 ≠ v9) :
    k0_cond1 i v1 v5 v9 = 1#1 := by
  rw [cond1_eq, sgt_one h0 h4]
  have e : IntOp.cmpi .ne v5 v9 = 1#1 := by
    show BitVec.ofBool (v5 != v9) = 1#1
    rw [bne_iff_ne.2 he]; rfl
  rw [e]
  generalize IntOp.cmpi .eq (BitVec.ofNat 32 (i 0).val) 0#32 = b
  revert b; decide

theorem cond1_keep (i : grid0.Coords) (hi : (i 0).val ≠ 0) {v1 v5 v9 : BitVec 32} (he : v5 = v9) :
    ¬ k0_cond1 i v1 v5 v9 = 1#1 := by
  have h0 : (i 0).val < 128 := (i 0).isLt
  rw [cond1_eq, he]
  have e : IntOp.cmpi .ne v9 v9 = 0#1 := by simp [IntOp.cmpi]
  have e' : IntOp.cmpi .eq (BitVec.ofNat 32 (i 0).val) 0#32 = 0#1 := by
    have : BitVec.ofNat 32 (i 0).val ≠ 0#32 := fun h => hi (by
      have := congrArg BitVec.toNat h
      rwa [toNat_word (by omega)] at this)
    show BitVec.ofBool (BitVec.ofNat 32 (i 0).val == 0#32) = 0#1
    rw [beq_false_of_ne this]; rfl
  rw [e, e']
  generalize IntOp.cmpi .sgt v1 0#32 = b
  revert b; decide

/-! ## The checks -/

theorem chk1_of (i : grid0.Coords) (v1 v5 v9 : BitVec 32) {b : BitVec 32} (hb : b = 0#32 ∨ b = 1#32) : k0_chk1 i v1 v5 v9 b := by
  rcases hb with rfl | rfl
  all_goals
    exact ⟨fun _ _ => by decide, fun _ _ => by decide, fun _ _ => by decide, fun _ _ => by decide, fun _ => by decide,
      fun _ => by decide, fun _ => by decide, fun _ => by decide, fun _ => by decide, fun _ => by decide⟩

theorem chk2_of (i : grid0.Coords) (v1 v5 v9 : BitVec 32) {e : BitVec 32} (h : e.toNat < 32) : k0_chk2 i v1 v5 v9 e :=
  ⟨fun _ _ => inbSG e h, fun _ _ => inbSD e h⟩
theorem chk3_of (i : grid0.Coords) (v1 v5 v9 : BitVec 32) {e : BitVec 32} (h : e.toNat < 32) : k0_chk3 i v1 v5 v9 e :=
  ⟨fun _ => inbSG e h, fun _ => inbSD e h⟩
theorem chk4_of (i : grid0.Coords) (v1 v5 v9 : BitVec 32) {b : BitVec 32} (hb : b = 0#32 ∨ b = 1#32) (x : BitVec 32) : k0_chk4 i v1 v5 v9 b x := by
  rcases hb with rfl | rfl
  all_goals exact ⟨fun _ _ => by decide, fun _ _ => by decide, fun _ _ => by decide, fun _ _ => by decide⟩
theorem chk5_of (i : grid0.Coords) (v1 v5 v9 x : BitVec 32) {e : BitVec 32} (h : e.toNat < 32) : k0_chk5 i v1 v5 v9 x e :=
  ⟨fun _ _ => inbSG e h, fun _ _ => inbSD e h⟩

/-! ## The launch's tables -/

theorem coord_val : ∀ t : Fin grid0.N, (grid0.coords t 0).val = t.val := by decide +kernel

section
variable {E N : S128.Idx → BitVec 32} {L : S1.Idx → BitVec 32} {B X : S128.Idx → BitVec 32}

theorem five (S : Sched E N L B X) (t : S128.Idx) : N t = 0#32 ∨ N t = 1#32 ∨ N t = 2#32 ∨ N t = 3#32 ∨ N t = 4#32 := by
  have h := S.n_le t
  generalize N t = v at h
  have : v.toNat = 0 ∨ v.toNat = 1 ∨ v.toNat = 2 ∨ v.toNat = 3 ∨ v.toNat = 4 := by omega
  rcases this with h | h | h | h | h
  · exact .inl (BitVec.eq_of_toNat_eq h)
  · exact .inr (.inl (BitVec.eq_of_toNat_eq h))
  · exact .inr (.inr (.inl (BitVec.eq_of_toNat_eq h)))
  · exact .inr (.inr (.inr (.inl (BitVec.eq_of_toNat_eq h))))
  · exact .inr (.inr (.inr (.inr (BitVec.eq_of_toNat_eq h))))

theorem two (S : Sched E N L B X) (t : S128.Idx) : B t = 0#32 ∨ B t = 1#32 := by
  have h := S.b_le t
  generalize B t = v at h
  have : v.toNat = 0 ∨ v.toNat = 1 := by omega
  rcases this with h | h
  · exact .inl (BitVec.eq_of_toNat_eq h)
  · exact .inr (BitVec.eq_of_toNat_eq h)

/-- The five tables as the launch holds them. -/
def pfOf (E N : S128.Idx → BitVec 32) (L : S1.Idx → BitVec 32) (B X : S128.Idx → BitVec 32) : pre0.Contents (Elt F) :=
  fun k => match k with
  | ⟨0, _⟩ => E
  | ⟨1, _⟩ => N
  | ⟨2, _⟩ => L
  | ⟨3, _⟩ => B
  | ⟨4, _⟩ => X

/-- Where the rows of block `b` lie: no further than the last block in use. -/
theorem min_le {i : ℕ} {v : BitVec 32} (hi : i < 128) (hv : v.toNat < 128) : (Scalar.minsi (BitVec.ofNat 32 i) v).toNat = min i v.toNat := by
  show (IntOp.minsi _ _).toNat = _
  have hx : (BitVec.ofNat 32 i).toInt = i := toInt_word (by omega)
  have hy : v.toInt = v.toNat := toInt_small (by omega)
  have hz : (BitVec.ofNat 32 i).toNat = i := toNat_word (by omega)
  by_cases h : i ≤ v.toNat
  · by_cases h' : i = v.toNat
    · have : v = BitVec.ofNat 32 i := BitVec.eq_of_toNat_eq (by rw [hz, h'])
      rw [this]; unfold IntOp.minsi; rw [ite_self, hz, Nat.min_self]
    · have : (BitVec.ofNat 32 i).slt v = true := by rw [BitVec.slt_eq_decide, hx, hy]; simp; omega
      have t2 : (BitVec.ofNat 32 i).sle v = true := by rw [BitVec.sle_eq_decide, hx, hy]; simp; omega
      simp only [IntOp.minsi, this, t2, if_true]
      rw [hz, Nat.min_eq_left h]
  · have : (BitVec.ofNat 32 i).slt v = false := by rw [BitVec.slt_eq_decide, hx, hy]; simp; omega
    have t2 : (BitVec.ofNat 32 i).sle v = false := by rw [BitVec.sle_eq_decide, hx, hy]; simp; omega
    simp only [IntOp.minsi, this, t2, if_false, Bool.false_eq_true]
    rw [Nat.min_eq_right (by omega)]

theorem tr0_at (i : grid0.Coords) (hl : (L (ix1 0)).toNat < 128) :
    cc0_transform_0 inb_S1_S1_0 numel1_S1 (pfOf (F := F) E N L B X) i = ![min (i 0).val (L (ix1 0)).toNat, 0, 0] := by
  refine congrArg (fun x : ℕ => (![x, 0, 0] : Fin 3 → ℕ)) ?_
  refine Eq.trans ?_ (min_le (i := (i 0).val) (i 0).isLt hl)
  exact congrArg (fun j => (Scalar.minsi (BitVec.ofNat 32 (i 0).val) (L j)).toNat)
    (funext fun a => by fin_cases a; exact Subsingleton.elim (α := Fin 1) _ _)

theorem tr2_at (i : grid0.Coords) {n : ℕ} (hi : (i 0).val = n) (hn : n < 128) :
    cc0_transform_2 k0_off1_inb numel1_S1 (pfOf (F := F) E N L B X) i = ![0, (E (at128 n)).toNat, 0, 0] := by
  refine congrArg (fun x : ℕ => (![0, x, 0, 0] : Fin 4 → ℕ)) ?_
  exact congrArg (fun j => (E j).toNat) (emb_at128 n hn _ (off1_at i hi hn) (k0_off1_inb i) _)

theorem tr4_at (i : grid0.Coords) {n : ℕ} (hi : (i 0).val = n) (hn : n < 128) :
    cc0_transform_4 k0_off1_inb numel1_S1 (pfOf (F := F) E N L B X) i = ![0, (E (at128 n)).toNat, 0, 0] := by
  refine congrArg (fun x : ℕ => (![0, x, 0, 0] : Fin 4 → ℕ)) ?_
  exact congrArg (fun j => (E j).toNat) (emb_at128 n hn _ (off1_at i hi hn) (k0_off1_inb i) _)

theorem ok_of (S : Sched E N L B X) : ok0 (pfOf (F := F) E N L B X) := by
  refine ⟨fun i => ⟨?_, .inl rfl⟩, fun i => ⟨?_, .inl rfl⟩, fun i => ⟨?_, .inl rfl⟩⟩
  · rw [tr0_at i S.l_lt]
    have := S.l_lt
    have hi : (i 0).val < 128 := (i 0).isLt
    intro a; fin_cases a
    · show (min (i 0).val (L (ix1 0)).toNat + 1) * 512 ≤ 65536; omega
    · show (0 + 1) * 8 ≤ 8; omega
    · show (0 + 1) * 128 ≤ 128; omega
  · rw [tr2_at i rfl (i 0).isLt]
    have := S.e_lt (at128 (i 0).val)
    intro a; fin_cases a
    · show (0 + 1) * 1 ≤ 4; omega
    · show ((E (at128 (i 0).val)).toNat + 1) * 1 ≤ 32; omega
    · show (0 + 1) * 1 ≤ 1; omega
    · show (0 + 1) * 2048 ≤ 2048; omega
  · rw [tr4_at i rfl (i 0).isLt]
    have := S.e_lt (at128 (i 0).val)
    intro a; fin_cases a
    · show (0 + 1) * 1 ≤ 4; omega
    · show ((E (at128 (i 0).val)).toNat + 1) * 1 ≤ 32; omega
    · show (0 + 1) * 1 ≤ 1; omega
    · show (0 + 1) * 1024 ≤ 1024; omega

theorem busy (S : Sched E N L B X) (i : grid0.Coords) : idle0 (pfOf (F := F) E N L B X) 3 i = false := by
  have hv : ∀ v : BitVec 32, (v = 0#32 ∨ v = 1#32 ∨ v = 2#32 ∨ v = 3#32 ∨ v = 4#32) →
      (!(k0_cond4 v == 1#1) && !(k0_cond5 v == 1#1) && !(k0_cond6 v == 1#1) && !(k0_cond7 v == 1#1) && !(k0_cond8 v == 1#1)) = false := by
    rintro v (rfl | rfl | rfl | rfl | rfl) <;> decide
  have h : ∀ a, k0_off1 i a + 1 ≤ S128.size a := fun a => by have := k0_off1_inb i a; fin_cases a; exact this
  have e : (pfOf (F := F) E N L B X).atD 1 (k0_off1 i) = N (fun a => ⟨k0_off1 i a, h a⟩) := dif_pos h
  have := hv _ (five S (fun a => ⟨k0_off1 i a, h a⟩))
  rw [← e] at this
  exact this

end

end Cert.Kernel2Ideal.Hand
-- ==== Proof.ExpertsPoint.lean ====
module

public import proofs.«01_k».proof.Proof.ExpertsTables

@[expose] public section

noncomputable section

namespace Cert.Kernel2Ideal.Hand

open Cert.Kernel2Ideal Cert.Kernel2Ideal.Gen Cert.Schedule
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (c : Dev nD)

/-- The slot a word names, and the other one. -/
def slotOf (b : BitVec 32) : Fin 2 := if b = 1#32 then 1 else 0
def otherOf (b : BitVec 32) : Fin 2 := if b = 1#32 then 0 else 1

theorem slot_cases {b : BitVec 32} (h : b = 0#32 ∨ b = 1#32) :
    (b = 0#32 ∧ slotOf b = 0 ∧ otherOf b = 1) ∨ (b = 1#32 ∧ slotOf b = 1 ∧ otherOf b = 0) := by
  rcases h with rfl | rfl
  · exact .inl ⟨rfl, by decide, by decide⟩
  · exact .inr ⟨rfl, by decide, by decide⟩

/-- Two words naming different slots. -/
theorem slot_flip {b b' : BitVec 32} (h : b = 0#32 ∨ b = 1#32) (h' : b'.toNat = 1 - b.toNat) : slotOf b' = otherOf b ∧ otherOf b' = slotOf b := by
  rcases h with rfl | rfl
  · have : b' = 1#32 := BitVec.eq_of_toNat_eq h'
    subst this; exact ⟨by decide, by decide⟩
  · have : b' = 0#32 := BitVec.eq_of_toNat_eq h'
    subst this; exact ⟨by decide, by decide⟩

section
variable (E N B X : S128.Idx → BitVec 32) (fa : Cont (F := F) c mA6) (fd : Cont (F := F) c mA8)

/-- Before the first block: the tables, both slots free, the weights whole, the scratch at anything. -/
def startInv : sProp (Res F) :=
  iprop(tab c mT0 E ∗ tab c mT1 N ∗ tab c mT3 B ∗ tab c mT4 X ∗ freeSlot c 0 ∗ freeSlot c 1
    ∗ held c mA6 fullShare fa ∗ held c mA8 fullShare fd ∗ (∃ f, held c mS0 fullShare f) ∗ (∃ f, held c mS1 fullShare f))

/-- After a block of expert `e` in the slot `b` names, `x` the next expert: the rounded weights in place, the block's
    slot free, the next expert's weights on their way in the other. -/
def blockInv (b x e : BitVec 32) (he : e.toNat < 32) : sProp (Res F) :=
  iprop(tab c mT0 E ∗ tab c mT1 N ∗ tab c mT3 B ∗ tab c mT4 X ∗ freeSlot c (slotOf b) ∗ ahead c (otherOf b) x fa fd
    ∗ reads c mS0 (wG c fa e he) ∗ reads c mS1 (wD c fd e he))

theorem blockInv_congr {b x e b' x' e' : BitVec 32} {he : e.toNat < 32} {he' : e'.toNat < 32} (h1 : b = b') (h2 : x = x') (h3 : e = e') :
    blockInv c E N B X fa fd b x e he = blockInv c E N B X fa fd b' x' e' he' := by
  subst h1 h2 h3; rfl

theorem start_slots (b : BitVec 32) (h : b = 0#32 ∨ b = 1#32) :
    iprop(freeSlot (F := F) c 0 ∗ freeSlot c 1) ⊢ iprop(freeSlot (F := F) c (slotOf b) ∗ freeSlot c (otherOf b)) := by
  rcases slot_cases h with ⟨-, h1, h2⟩ | ⟨-, h1, h2⟩
  · rw [h1, h2]
  · rw [h1, h2]; iintro ⟨H0, H1⟩
    isplitl [H1]; · iexact H1
    iexact H0

variable {E N B X} {L : S1.Idx → BitVec 32} (S : Sched E N L B X)

theorem ahead_fly (k : Fin 2) {x e : BitVec 32} (hx : x = e) (he : e.toNat < 32) : ahead c k x fa fd ⊢ flySlot c k e fa fd := by
  subst hx
  unfold ahead
  rw [if_pos ((cond3_iff x).2 (by rw [toInt_small (by omega)]; omega))]

theorem four {v : BitVec 32} (h0 : 0 < v.toNat) (h : v = 0#32 ∨ v = 1#32 ∨ v = 2#32 ∨ v = 3#32 ∨ v = 4#32) :
    v = 1#32 ∨ v = 2#32 ∨ v = 3#32 ∨ v = 4#32 := by
  rcases h with rfl | h
  · exact absurd h0 (by decide)
  · exact h

variable (i : grid0.Coords) (x6 : Memref sig .tc .vmem S512x8x128 .f32) (h6 : x6.IsWhole)
    (x8 : Memref sig .tc .vmem S1x1x1x2048 .f32) (h8 : x8.IsWhole)
    (x10 : Memref sig .tc .vmem S1x1x1x1024 .f32) (h10 : x10.IsWhole)
    (x11 : Memref sig .tc .vmem S512x8x128 .f32) (h11 : x11.IsWhole)
    (x : Vec F S512x8x128 .f32) (bg : Vec F S1x1x1x2048 .f32) (bd : Vec F S1x1x1x1024 .f32)

/-- What a block's output holds. -/
abbrev outAt (n : ℕ) (x : Vec F S512x8x128 .f32) (bg : Vec F S1x1x1x2048 .f32) (bd : Vec F S1x1x1x1024 .f32) : Vec F S512x8x128 .f32 :=
  outB (N (at128 n)) x (wG c fa (E (at128 n)) (S.e_lt _)) bg (wD c fd (E (at128 n)) (S.e_lt _)) bd

include S in
/-- The first block. -/
theorem first_point (hi : (i 0).val = 0) (W : Waits sig Unit) (K : PUnit → sProp (Res F)) :
    iprop((startInv c E N B X fa fd ∗ owes (c : Thread nD τ) 0 W ∗ reads c x6 x ∗ reads c x8 bg ∗ reads c x10 bd
        ∗ (∃ d, held c x11 fullShare d))
      ∗ ((blockInv c E N B X fa fd (B (at128 0)) (X (at128 0)) (E (at128 0)) (S.e_lt _) ∗ (∃ W', owes (c : Thread nD τ) 0 W')
        ∗ reads c x6 x ∗ reads c x8 bg ∗ reads c x10 bd ∗ reads c x11 (outAt c fa fd S 0 x bg bd)) -∗ K ⟨⟩))
     ⊢ wp frame (wpE (defs₀ (F := F)) Variants.none c none) Set.univ
        (cc0_moe_experts i mT0 (Memref.isWhole_whole _) mT1 (Memref.isWhole_whole _) mT2 (Memref.isWhole_whole _)
          mT3 (Memref.isWhole_whole _) mT4 (Memref.isWhole_whole _) x6 h6 mA6 (Memref.isWhole_whole _)
          x8 h8 mA8 (Memref.isWhole_whole _) x10 h10 x11 h11
          mS0 (Memref.isWhole_whole _) mS1 (Memref.isWhole_whole _)
          mS2 (Memref.isWhole_whole _) mS3 (Memref.isWhole_whole _) cc0_scratch4) K := by
  have hb := two S (at128 0)
  have hk := slot_cases hb
  have hN := S.n_le (at128 0)
  have hE := S.e_lt (at128 0)
  have hc1 : k0_cond1 i (N (at128 0)) (E (at128 0)) (E (at128 0)) = 1#1 := cond1_first i hi S.first hN
  have o1 := off1_at i hi (by decide)
  have hk1 : k0_chk1 i (N (at128 0)) (E (at128 0)) (E (at128 0)) (B (at128 0)) := chk1_of _ _ _ _ hb
  iintro ⟨⟨HI, HW, HX, HBG, HBD, HO⟩, HK⟩
  unfold startInv
  icases HI with ⟨T0, T1, T3, T4, F0, F1, A6, A8, S0, S1⟩
  ihave FF := (start_slots c (B (at128 0)) hb) $$ [F0 F1]
  · isplitl [F0]; · iexact F0
    iexact F1
  icases FF with ⟨F0, F1⟩
  iapply (switch_body c i x6 h6 x8 h8 x10 h10 x11 h11 E N fa fd (N (at128 0)) (E (at128 0)) (E (at128 0)) (B (at128 0))
    (four S.first (five S _)) (slotOf (B (at128 0))) (hk.imp (fun h => ⟨h.1, h.2.1⟩) (fun h => ⟨h.1, h.2.1⟩)) hc1 hk1 hE
    (word1 c N (by decide) o1) (word0 c E (by decide) o1) (word0 c E (by decide) (off2_zero i hi))
    (iprop(tab c mT3 B ∗ tab c mT4 X ∗ freeSlot c (slotOf (B (at128 0))) ∗ freeSlot c (otherOf (B (at128 0))) ∗ held c mA6 fullShare fa
      ∗ held c mA8 fullShare fd ∗ (∃ f, held c mS0 fullShare f) ∗ owes (c : Thread nD τ) 0 W))
    (iprop(tab c mT3 B ∗ tab c mT4 X ∗ semVal ((c : Thread nD τ), cellG (slotOf (B (at128 0)))) 0
      ∗ semVal ((c : Thread nD τ), cellD (slotOf (B (at128 0)))) 0 ∗ ahead c (otherOf (B (at128 0))) (X (at128 0)) fa fd
      ∗ (∃ W', owes (c : Thread nD τ) 0 W')))
    (fun Q => by
      iintro ⟨⟨T0, T3, T4, F0, F1, A6, A8, S0, HW⟩, HQ⟩
      iapply (first_run c i x6 h6 x8 h8 x10 h10 x11 h11 E B X fa fd (N (at128 0)) (E (at128 0)) (E (at128 0)) (B (at128 0)) (X (at128 0))
        (slotOf (B (at128 0))) (otherOf (B (at128 0))) hk hc1 ((cond2_iff i).2 hi) hE (fun h => S.x_lt _ ((cond3_iff _).1 h))
        (word3 c B (by decide) o1) (word0 c E (by decide) o1) (word0 c E (by decide) o1) (word4 c X (by decide) o1) (word4 c X (by decide) o1)
        hk1 (chk2_of _ _ _ _ hE) (chk3_of _ _ _ _ hE) (chk4_of _ _ _ _ hb _) (fun h => chk5_of _ _ _ _ _ (S.x_lt _ ((cond3_iff _).1 h))) Q W)
      isplitl [T0 T3 T4 F0 F1 A6 A8 S0 HW]
      · isplitl [T0]; · iexact T0
        isplitl [T3]; · iexact T3
        isplitl [T4]; · iexact T4
        isplitl [F0]; · iexact F0
        isplitl [F1]; · iexact F1
        isplitl [A6]; · iexact A6
        isplitl [A8]; · iexact A8
        isplitl [S0]; · iexact S0
        iexact HW
      · iintro ⟨T0, T3, T4, S0, G, D, C1, C2, AH, HW⟩
        iapply HQ
        isplitl [T0]; · iexact T0
        isplitl [T3 T4 C1 C2 AH HW]
        · isplitl [T3]; · iexact T3
          isplitl [T4]; · iexact T4
          isplitl [C1]; · iexact C1
          isplitl [C2]; · iexact C2
          isplitl [AH]; · iexact AH
          iexact HW
        isplitl [S0]; · iexact S0
        isplitl [G]; · iexact G
        iexact D)
    x bg bd K)
  isplitl [T0 T1 T3 T4 F0 F1 A6 A8 S0 HW S1 HX HBG HBD HO]
  · isplitl [T0]; · iexact T0
    isplitl [T1]; · iexact T1
    isplitl [T3 T4 F0 F1 A6 A8 S0 HW]
    · isplitl [T3]; · iexact T3
      isplitl [T4]; · iexact T4
      isplitl [F0]; · iexact F0
      isplitl [F1]; · iexact F1
      isplitl [A6]; · iexact A6
      isplitl [A8]; · iexact A8
      isplitl [S0]; · iexact S0
      iexact HW
    isplitl [S1]; · iexact S1
    isplitl [HX]; · iexact HX
    isplitl [HBG]; · iexact HBG
    isplitl [HBD]; · iexact HBD
    iexact HO
  iintro ⟨T0, T1, ⟨T3, T4, C1, C2, AH, HW⟩, S0, S1, G, D, HX, HBG, HBD, HO⟩
  iapply HK
  isplitl [T0 T1 T3 T4 C1 C2 AH S0 S1 G D]
  · unfold blockInv freeSlot
    isplitl [T0]; · iexact T0
    isplitl [T1]; · iexact T1
    isplitl [T3]; · iexact T3
    isplitl [T4]; · iexact T4
    isplitl [G D C1 C2]
    · isplitl [G]; · iexact G
      isplitl [D]; · iexact D
      isplitl [C1]; · iexact C1
      iexact C2
    isplitl [AH]; · iexact AH
    isplitl [S0]; · iexact S0
    iexact S1
  isplitl [HW]; · iexact HW
  isplitl [HX]; · iexact HX
  isplitl [HBG]; · iexact HBG
  isplitl [HBD]; · iexact HBD
  iexact HO

include S in
/-- A block of another expert than the block before it. -/
theorem turn_point (n : ℕ) (hn : n < 127) (hi : (i 0).val = n + 1) (hne : E (at128 (n + 1)) ≠ E (at128 n)) (W : Waits sig Unit) (K : PUnit → sProp (Res F)) :
    iprop((blockInv c E N B X fa fd (B (at128 n)) (X (at128 n)) (E (at128 n)) (S.e_lt _) ∗ owes (c : Thread nD τ) 0 W
        ∗ reads c x6 x ∗ reads c x8 bg ∗ reads c x10 bd ∗ (∃ d, held c x11 fullShare d))
      ∗ ((blockInv c E N B X fa fd (B (at128 (n + 1))) (X (at128 (n + 1))) (E (at128 (n + 1))) (S.e_lt _) ∗ (∃ W', owes (c : Thread nD τ) 0 W')
        ∗ reads c x6 x ∗ reads c x8 bg ∗ reads c x10 bd ∗ reads c x11 (outAt c fa fd S (n + 1) x bg bd)) -∗ K ⟨⟩))
     ⊢ wp frame (wpE (defs₀ (F := F)) Variants.none c none) Set.univ
        (cc0_moe_experts i mT0 (Memref.isWhole_whole _) mT1 (Memref.isWhole_whole _) mT2 (Memref.isWhole_whole _)
          mT3 (Memref.isWhole_whole _) mT4 (Memref.isWhole_whole _) x6 h6 mA6 (Memref.isWhole_whole _)
          x8 h8 mA8 (Memref.isWhole_whole _) x10 h10 x11 h11
          mS0 (Memref.isWhole_whole _) mS1 (Memref.isWhole_whole _)
          mS2 (Memref.isWhole_whole _) mS3 (Memref.isWhole_whole _) cc0_scratch4) K := by
  obtain ⟨hpos, hflip, hnext⟩ := S.turn n hn hne
  have hb := two S (at128 (n + 1))
  have hk := slot_cases hb
  have hN := S.n_le (at128 (n + 1))
  have hE := S.e_lt (at128 (n + 1))
  obtain ⟨f1, f2⟩ := slot_flip (two S (at128 n)) hflip
  have hl : n + 1 < 128 := by omega
  have hc1 : k0_cond1 i (N (at128 (n + 1))) (E (at128 (n + 1))) (E (at128 n)) = 1#1 := cond1_turn i hpos hN hne
  have hc2 : ¬ k0_cond2 i = 1#1 := fun h => by have := (cond2_iff i).1 h; omega
  have o1 := off1_at i hi hl
  have hk1 : k0_chk1 i (N (at128 (n + 1))) (E (at128 (n + 1))) (E (at128 n)) (B (at128 (n + 1))) := chk1_of _ _ _ _ hb
  iintro ⟨⟨HI, HW, HX, HBG, HBD, HO⟩, HK⟩
  unfold blockInv
  rw [← f1, ← f2]
  icases HI with ⟨T0, T1, T3, T4, F1, AH, ⟨%s0, %hs0, S0⟩, ⟨%s1, %hs1, S1⟩⟩
  ihave F0 := (ahead_fly c fa fd (slotOf (B (at128 (n + 1)))) hnext hE) $$ AH
  iapply (switch_body c i x6 h6 x8 h8 x10 h10 x11 h11 E N fa fd (N (at128 (n + 1))) (E (at128 (n + 1))) (E (at128 n)) (B (at128 (n + 1)))
    (four hpos (five S _)) (slotOf (B (at128 (n + 1)))) (hk.imp (fun h => ⟨h.1, h.2.1⟩) (fun h => ⟨h.1, h.2.1⟩)) hc1 hk1 hE
    (word1 c N hl o1) (word0 c E hl o1) (word0 c E (by omega) (off2_at i hi hl))
    (iprop(tab c mT3 B ∗ tab c mT4 X ∗ flySlot c (slotOf (B (at128 (n + 1)))) (E (at128 (n + 1))) fa fd ∗ freeSlot c (otherOf (B (at128 (n + 1))))
      ∗ (∃ f, held c mS0 fullShare f) ∗ owes (c : Thread nD τ) 0 W))
    (iprop(tab c mT3 B ∗ tab c mT4 X ∗ semVal ((c : Thread nD τ), cellG (slotOf (B (at128 (n + 1))))) 0
      ∗ semVal ((c : Thread nD τ), cellD (slotOf (B (at128 (n + 1))))) 0 ∗ ahead c (otherOf (B (at128 (n + 1)))) (X (at128 (n + 1))) fa fd
      ∗ (∃ W', owes (c : Thread nD τ) 0 W')))
    (fun Q => by
      iintro ⟨⟨T0, T3, T4, F0, F1, S0, HW⟩, HQ⟩
      iapply (later_run c i x6 h6 x8 h8 x10 h10 x11 h11 E B X fa fd (N (at128 (n + 1))) (E (at128 (n + 1))) (E (at128 n)) (B (at128 (n + 1))) (X (at128 (n + 1)))
        (slotOf (B (at128 (n + 1)))) (otherOf (B (at128 (n + 1)))) hk hc1 hc2 hE (fun h => S.x_lt _ ((cond3_iff _).1 h))
        (word3 c B hl o1) (word0 c E hl o1) (word4 c X hl o1) (word4 c X hl o1)
        hk1 (chk3_of _ _ _ _ hE) (chk4_of _ _ _ _ hb _) (fun h => chk5_of _ _ _ _ _ (S.x_lt _ ((cond3_iff _).1 h))) Q W)
      isplitl [T0 T3 T4 F0 F1 S0 HW]
      · isplitl [T0]; · iexact T0
        isplitl [T3]; · iexact T3
        isplitl [T4]; · iexact T4
        isplitl [F0]; · iexact F0
        isplitl [F1]; · iexact F1
        isplitl [S0]; · iexact S0
        iexact HW
      · iintro ⟨T0, T3, T4, S0, G, D, C1, C2, AH, HW⟩
        iapply HQ
        isplitl [T0]; · iexact T0
        isplitl [T3 T4 C1 C2 AH HW]
        · isplitl [T3]; · iexact T3
          isplitl [T4]; · iexact T4
          isplitl [C1]; · iexact C1
          isplitl [C2]; · iexact C2
          isplitl [AH]; · iexact AH
          iexact HW
        isplitl [S0]; · iexact S0
        isplitl [G]; · iexact G
        iexact D)
    x bg bd K)
  isplitl [T0 T1 T3 T4 F0 F1 S0 HW S1 HX HBG HBD HO]
  · isplitl [T0]; · iexact T0
    isplitl [T1]; · iexact T1
    isplitl [T3 T4 F0 F1 S0 HW]
    · isplitl [T3]; · iexact T3
      isplitl [T4]; · iexact T4
      isplitl [F0]; · iexact F0
      isplitl [F1]; · iexact F1
      isplitl [S0]; · iexists s0; iexact S0
      iexact HW
    isplitl [S1]; · iexists s1; iexact S1
    isplitl [HX]; · iexact HX
    isplitl [HBG]; · iexact HBG
    isplitl [HBD]; · iexact HBD
    iexact HO
  iintro ⟨T0, T1, ⟨T3, T4, C1, C2, AH, HW⟩, S0, S1, G, D, HX, HBG, HBD, HO⟩
  iapply HK
  isplitl [T0 T1 T3 T4 C1 C2 AH S0 S1 G D]
  · unfold freeSlot
    isplitl [T0]; · iexact T0
    isplitl [T1]; · iexact T1
    isplitl [T3]; · iexact T3
    isplitl [T4]; · iexact T4
    isplitl [G D C1 C2]
    · isplitl [G]; · iexact G
      isplitl [D]; · iexact D
      isplitl [C1]; · iexact C1
      iexact C2
    isplitl [AH]; · iexact AH
    isplitl [S0]; · iexact S0
    iexact S1
  isplitl [HW]; · iexact HW
  isplitl [HX]; · iexact HX
  isplitl [HBG]; · iexact HBG
  isplitl [HBD]; · iexact HBD
  iexact HO

include S in
/-- A block of the same expert as the block before it. -/
theorem keep_point (n : ℕ) (hn : n < 127) (hi : (i 0).val = n + 1) (heq : E (at128 (n + 1)) = E (at128 n)) (W : Waits sig Unit) (K : PUnit → sProp (Res F)) :
    iprop((blockInv c E N B X fa fd (B (at128 n)) (X (at128 n)) (E (at128 n)) (S.e_lt _) ∗ owes (c : Thread nD τ) 0 W
        ∗ reads c x6 x ∗ reads c x8 bg ∗ reads c x10 bd ∗ (∃ d, held c x11 fullShare d))
      ∗ ((blockInv c E N B X fa fd (B (at128 (n + 1))) (X (at128 (n + 1))) (E (at128 (n + 1))) (S.e_lt _) ∗ (∃ W', owes (c : Thread nD τ) 0 W')
        ∗ reads c x6 x ∗ reads c x8 bg ∗ reads c x10 bd ∗ reads c x11 (outAt c fa fd S (n + 1) x bg bd)) -∗ K ⟨⟩))
     ⊢ wp frame (wpE (defs₀ (F := F)) Variants.none c none) Set.univ
        (cc0_moe_experts i mT0 (Memref.isWhole_whole _) mT1 (Memref.isWhole_whole _) mT2 (Memref.isWhole_whole _)
          mT3 (Memref.isWhole_whole _) mT4 (Memref.isWhole_whole _) x6 h6 mA6 (Memref.isWhole_whole _)
          x8 h8 mA8 (Memref.isWhole_whole _) x10 h10 x11 h11
          mS0 (Memref.isWhole_whole _) mS1 (Memref.isWhole_whole _)
          mS2 (Memref.isWhole_whole _) mS3 (Memref.isWhole_whole _) cc0_scratch4) K := by
  obtain ⟨hB, hX⟩ := S.keep n hn heq
  have hl : n + 1 < 128 := by omega
  have o1 := off1_at i hi hl
  have hc1 : ¬ k0_cond1 i (N (at128 (n + 1))) (E (at128 (n + 1))) (E (at128 n)) = 1#1 := cond1_keep i (by omega) heq
  rw [← blockInv_congr (c := c) (E := E) (N := N) (B := B) (X := X) (fa := fa) (fd := fd) (he := S.e_lt _) (he' := S.e_lt _) hB hX heq]
  iintro ⟨⟨HI, HW, HX, HBG, HBD, HO⟩, HK⟩
  unfold blockInv
  icases HI with ⟨T0, T1, T3, T4, F1, AH, S0, S1⟩
  iapply (keep_body c i x6 h6 x8 h8 x10 h10 x11 h11 E N (N (at128 (n + 1))) (E (at128 (n + 1))) (E (at128 n)) (five S _) hc1
    (word1 c N hl o1) (word0 c E hl o1) (word0 c E (by omega) (off2_at i hi hl)) x (wG c fa (E (at128 (n + 1))) (S.e_lt _)) bg
    (wD c fd (E (at128 (n + 1))) (S.e_lt _)) bd K)
  isplitl [T0 T1 S0 S1 HX HBG HBD HO]
  · isplitl [T0]; · iexact T0
    isplitl [T1]; · iexact T1
    isplitl [S0]; · iexact S0
    isplitl [S1]; · iexact S1
    isplitl [HX]; · iexact HX
    isplitl [HBG]; · iexact HBG
    isplitl [HBD]; · iexact HBD
    iexact HO
  iintro ⟨T0, T1, S0, S1, HX, HBG, HBD, HO⟩
  iapply HK
  isplitl [T0 T1 T3 T4 F1 AH S0 S1]
  · isplitl [T0]; · iexact T0
    isplitl [T1]; · iexact T1
    isplitl [T3]; · iexact T3
    isplitl [T4]; · iexact T4
    isplitl [F1]; · iexact F1
    isplitl [AH]; · iexact AH
    isplitl [S0]; · iexact S0
    iexact S1
  isplitl [HW]; · iexists W; iexact HW
  isplitl [HX]; · iexact HX
  isplitl [HBG]; · iexact HBG
  isplitl [HBD]; · iexact HBD
  iexact HO

end

end Cert.Kernel2Ideal.Hand
-- ==== Proof.ExpertsFrame.lean ====
module

public import proofs.«01_k».proof.Proof.ExpertsPoint

@[expose] public section

noncomputable section

namespace Cert.Kernel2Ideal.Hand

open Cert.Kernel2Ideal Cert.Kernel2Ideal.Gen Cert.Schedule
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The scratch's two slots -/

abbrev setG (k : Fin 2) : Finset S2x1024x2048.Idx := (Rect.unit (s := S2x1024x2048) ![k.val, 0, 0] S1x1024x2048.size (inbG k)).set
abbrev setD (k : Fin 2) : Finset S2x1024x1024.Idx := (Rect.unit (s := S2x1024x1024) ![k.val, 0, 0] S1x1024x1024.size (inbD k)).set

theorem slotG_set (k : Fin 2) : (slotG k).view.set = setG k := by
  simp only [slotG, Memref.view_squeeze, View.set_reshape]; exact View.set_slice_whole _ _
theorem slotD_set (k : Fin 2) : (slotD k).view.set = setD k := by
  simp only [slotD, Memref.view_squeeze, View.set_reshape]; exact View.set_slice_whole _ _

theorem disjG (k k' : Fin 2) (h : k ≠ k') : Disjoint (setG k) (setG k') :=
  Ring.lead_disjoint (s := S2x1024x2048) (0 : Fin 3) 1 (fun k : Fin 2 => (![k.val, 0, 0] : Fin 3 → Nat)) S1x1024x2048.size inbG
    (fun k => by simp) rfl k k' h
theorem disjD (k k' : Fin 2) (h : k ≠ k') : Disjoint (setD k) (setD k') :=
  Ring.lead_disjoint (s := S2x1024x1024) (0 : Fin 3) 1 (fun k : Fin 2 => (![k.val, 0, 0] : Fin 3 → Nat)) S1x1024x1024.size inbD
    (fun k => by simp) rfl k k' h
theorem coverG : Finset.univ.biUnion setG = Finset.univ :=
  Ring.lead_cover (s := S2x1024x2048) (0 : Fin 3) 1 (fun k : Fin 2 => (![k.val, 0, 0] : Fin 3 → Nat)) S1x1024x2048.size inbG
    (fun k => by simp) (fun k a ha => by fin_cases a <;> first | exact absurd rfl ha | rfl) rfl
    (fun a ha => by fin_cases a <;> first | exact absurd rfl ha | rfl) rfl
theorem coverD : Finset.univ.biUnion setD = Finset.univ :=
  Ring.lead_cover (s := S2x1024x1024) (0 : Fin 3) 1 (fun k : Fin 2 => (![k.val, 0, 0] : Fin 3 → Nat)) S1x1024x1024.size inbD
    (fun k => by simp) (fun k a ha => by fin_cases a <;> first | exact absurd rfl ha | rfl) rfl
    (fun a ha => by fin_cases a <;> first | exact absurd rfl ha | rfl) rfl

section
variable (c : Dev nD)

theorem heldG_eq (k : Fin 2) (f : Cont (F := F) c (slotG k)) :
    heldOn c (slotG k) f = (mS2.view.loc (c : Thread nD τ) ↦[setG k]{fullShare} f : sProp (Res F)) := by
  rw [← slotG_set]; rfl
theorem heldD_eq (k : Fin 2) (f : Cont (F := F) c (slotD k)) :
    heldOn c (slotD k) f = (mS3.view.loc (c : Thread nD τ) ↦[setD k]{fullShare} f : sProp (Res F)) := by
  rw [← slotD_set]; rfl

theorem splitG : iprop(∃ f, held (F := F) c mS2 fullShare f) ⊢ iprop((∃ f, heldOn (F := F) c (slotG 0) f) ∗ ∃ f, heldOn (F := F) c (slotG 1) f) :=
  Ring.slots2_split (U := Pipeline.UD sig nD τ) (ℓ := mS2.view.loc (c : Thread nD τ)) (q := fullShare) setG disjG coverG
    (fun f => heldOn (F := F) c (slotG 0) f) (fun f => heldOn (F := F) c (slotG 1) f) (heldG_eq c 0) (heldG_eq c 1)
theorem joinG : iprop((∃ f, heldOn (F := F) c (slotG 0) f) ∗ ∃ f, heldOn (F := F) c (slotG 1) f) ⊢ iprop(∃ f, held (F := F) c mS2 fullShare f) :=
  Ring.slots2_join (U := Pipeline.UD sig nD τ) (ℓ := mS2.view.loc (c : Thread nD τ)) (q := fullShare) setG disjG coverG
    (fun f => heldOn (F := F) c (slotG 0) f) (fun f => heldOn (F := F) c (slotG 1) f) (heldG_eq c 0) (heldG_eq c 1)
theorem splitD : iprop(∃ f, held (F := F) c mS3 fullShare f) ⊢ iprop((∃ f, heldOn (F := F) c (slotD 0) f) ∗ ∃ f, heldOn (F := F) c (slotD 1) f) :=
  Ring.slots2_split (U := Pipeline.UD sig nD τ) (ℓ := mS3.view.loc (c : Thread nD τ)) (q := fullShare) setD disjD coverD
    (fun f => heldOn (F := F) c (slotD 0) f) (fun f => heldOn (F := F) c (slotD 1) f) (heldD_eq c 0) (heldD_eq c 1)
theorem joinD : iprop((∃ f, heldOn (F := F) c (slotD 0) f) ∗ ∃ f, heldOn (F := F) c (slotD 1) f) ⊢ iprop(∃ f, held (F := F) c mS3 fullShare f) :=
  Ring.slots2_join (U := Pipeline.UD sig nD τ) (ℓ := mS3.view.loc (c : Thread nD τ)) (q := fullShare) setD disjD coverD
    (fun f => heldOn (F := F) c (slotD 0) f) (fun f => heldOn (F := F) c (slotD 1) f) (heldD_eq c 0) (heldD_eq c 1)

/-- The slots in their order. -/
theorem slots_back (b : BitVec 32) (h : b = 0#32 ∨ b = 1#32) :
    iprop(freeSlot (F := F) c (slotOf b) ∗ freeSlot c (otherOf b)) ⊢ iprop(freeSlot (F := F) c 0 ∗ freeSlot c 1) := by
  rcases slot_cases h with ⟨-, h1, h2⟩ | ⟨-, h1, h2⟩
  · rw [h1, h2]
  · rw [h1, h2]; iintro ⟨H0, H1⟩
    isplitl [H1]; · iexact H1
    iexact H0
end

/-! ## The memory the region finds -/

variable (m : (ℓ : Loc nD τ sig) → Buf (Elt F) ℓ) (ρ : Dev nD → PrngReg)

abbrev d0 : Dev nD := ⟨0, by decide⟩
theorem dev_eq (c : Dev nD) : c = d0 := Subsingleton.elim (α := Fin 1) c d0

abbrev tE : S128.Idx → BitVec 32 := m ((d0 : Thread nD τ).loc main_arg0)
abbrev tN : S128.Idx → BitVec 32 := m ((d0 : Thread nD τ).loc main_arg1)
abbrev tL : S1.Idx → BitVec 32 := m ((d0 : Thread nD τ).loc main_arg2)
abbrev tB : S128.Idx → BitVec 32 := m ((d0 : Thread nD τ).loc main_arg3)
abbrev tX : S128.Idx → BitVec 32 := m ((d0 : Thread nD τ).loc main_arg4)
abbrev Good : Prop := Sched (tE m) (tN m) (tL m) (tB m) (tX m)

def V (c : Dev nD) (b : Ref sig .tc) : Buf (Elt F) ((c : Thread nD τ).loc b) := StableHlo.after hostOps0 (fun b => m (c, b)) b

theorem V_other (c : Dev nD) (b : Ref sig .tc) (h : b ∉ [main_v0, main_v1]) : V m c b = m ((c : Thread nD τ).loc b) :=
  StableHlo.after_of_writes_sub (W := [main_v0, main_v1]) hostOps0 (fun b => m (c, b))
    ⟨by change (StableHlo.reshape main_arg7 main_v0 _ _ _ _).writes ⊆ _; rw [StableHlo.reshape_writes]; decide,
     by change (StableHlo.reshape main_arg9 main_v1 _ _ _ _).writes ⊆ _; rw [StableHlo.reshape_writes]; decide⟩ h

abbrev wA (c : Dev nD) : Cont (F := F) c mA6 := m ((c : Thread nD τ).loc main_arg6)
abbrev wB (c : Dev nD) : Cont (F := F) c mA8 := m ((c : Thread nD τ).loc main_arg8)

variable {m} (S : Good m)

def adm : (p : Fin 1) → (pcfgs (F := F) p).Adm := fun _ => ⟨pfOf (tE m) (tN m) (tL m) (tB m) (tX m), ok_of S⟩

abbrev cfgE : Cfg sig Λ₀ := cfg0 (adm S 0)

/-- The block of window `w` at point `t`, as the region finds it. -/
def iblk (c : Dev nD) (w : Fin 4) (t : Fin (cfgE S).N) : ((cfgE S).win w).block.Idx → Elt F ((cfgE S).win w).elt :=
  (((cfgE S).win w).blk t).view.read (Elt F) (V m c (Pipeline.arrRef spec0 w))

/-- What a core holds at the start of point `n`. -/
def inv (c : Dev nD) : (n : ℕ) → n ≤ (cfgE S).N → sProp (Res F)
  | 0, _ => iprop(startInv c (tE m) (tN m) (tB m) (tX m) (wA m c) (wB m c) ∗ ∃ r, prngReg c r)
  | n + 1, _ => iprop(blockInv c (tE m) (tN m) (tB m) (tX m) (wA m c) (wB m c) (tB m (at128 n)) (tX m (at128 n)) (tE m (at128 n)) (S.e_lt _)
      ∗ ∃ r, prngReg c r)

def dats (_ : Fin 1) (c : Dev nD) : Dat τ (Elt F) Unit ℕ (Pipeline.UD sig nD τ) ℕ (cfgE S) c where
  A w := V m c (Pipeline.arrRef spec0 w)
  after w t := match w with
    | ⟨0, _⟩ => iblk S c 0 t
    | ⟨1, _⟩ => iblk S c 1 t
    | ⟨2, _⟩ => iblk S c 2 t
    | ⟨3, _⟩ => outAt c (wA m c) (wB m c) S t.val (iblk S c 0 t) (iblk S c 1 t) (iblk S c 2 t)
  Φ t := inv S c t.val (Nat.le_of_lt_succ t.isLt)
  q _ := fullShare
  owed _ := 0

theorem A_eq (c : Dev nD) (w : Fin 4) : (dats S 0 c).A w = V m c (Pipeline.arrRef spec0 w) := by
  dsimp only [dats]
theorem after_0 (c : Dev nD) (t : Fin (cfgE S).N) : (dats S 0 c).after 0 t = iblk S c 0 t := by dsimp only [dats]; rfl
theorem after_1 (c : Dev nD) (t : Fin (cfgE S).N) : (dats S 0 c).after 1 t = iblk S c 1 t := by dsimp only [dats]; rfl
theorem after_2 (c : Dev nD) (t : Fin (cfgE S).N) : (dats S 0 c).after 2 t = iblk S c 2 t := by dsimp only [dats]; rfl
theorem after_3 (c : Dev nD) (t : Fin (cfgE S).N) :
    (dats S 0 c).after 3 t = outAt c (wA m c) (wB m c) S t.val (iblk S c 0 t) (iblk S c 1 t) (iblk S c 2 t) := by dsimp only [dats]; rfl
theorem Φ_start (c : Dev nD) (t : Fin (cfgE S).N) : (dats S 0 c).Φ t.castSucc = inv S c t.val (Nat.le_of_lt t.isLt) := by
  dsimp only [dats]; exact Pipeline.Dat.Φ_castSucc (inv S c) t
theorem Φ_end (c : Dev nD) (t : Fin (cfgE S).N) : (dats S 0 c).Φ t.succ = inv S c (t.val + 1) t.isLt := by
  dsimp only [dats]; rfl

theorem before_0 (c : Dev nD) (t : Fin (cfgE S).N) (d) : (dats S 0 c).before 0 t d = iblk S c 0 t :=
  ((dats S 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin (cfgE S).N) (d) : (dats S 0 c).before 1 t d = iblk S c 1 t :=
  ((dats S 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin (cfgE S).N) (d) : (dats S 0 c).before 2 t d = iblk S c 2 t :=
  ((dats S 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-! ## The body at a point -/

abbrev st0 (t : Fin (cfgE S).N) : Memref sig .tc .vmem S512x8x128 .f32 := spec0_0.stage ((cfgE S).slots t 0)
abbrev st1 (t : Fin (cfgE S).N) : Memref sig .tc .vmem S1x1x1x2048 .f32 := spec0_1.stage ((cfgE S).slots t 1)
abbrev st2 (t : Fin (cfgE S).N) : Memref sig .tc .vmem S1x1x1x1024 .f32 := spec0_2.stage ((cfgE S).slots t 2)
abbrev st3 (t : Fin (cfgE S).N) : Memref sig .tc .vmem S512x8x128 .f32 := spec0_3.stage ((cfgE S).slots t 3)
theorem hst0 (t : Fin (cfgE S).N) : (st0 S t).IsWhole := hstage0_0 (((cfgE S).slots t 0).cast nbuf0_0)
theorem hst1 (t : Fin (cfgE S).N) : (st1 S t).IsWhole := hstage0_1 (((cfgE S).slots t 1).cast nbuf0_1)
theorem hst2 (t : Fin (cfgE S).N) : (st2 S t).IsWhole := hstage0_2 (((cfgE S).slots t 2).cast nbuf0_2)
theorem hst3 (t : Fin (cfgE S).N) : (st3 S t).IsWhole := hstage0_3 (((cfgE S).slots t 3).cast nbuf0_3)

abbrev bodyAt (t : Fin (cfgE S).N) : Prog (TpuEff nD τ sig (Elt F) Λ₀ .tc) PUnit :=
  cc0_moe_experts (grid0.coords t) mT0 (Memref.isWhole_whole _) mT1 (Memref.isWhole_whole _) mT2 (Memref.isWhole_whole _)
    mT3 (Memref.isWhole_whole _) mT4 (Memref.isWhole_whole _) (st0 S t) (hst0 S t) mA6 (Memref.isWhole_whole _)
    (st1 S t) (hst1 S t) mA8 (Memref.isWhole_whole _) (st2 S t) (hst2 S t) (st3 S t) (hst3 S t)
    mS0 (Memref.isWhole_whole _) mS1 (Memref.isWhole_whole _)
    mS2 (Memref.isWhole_whole _) mS3 (Memref.isWhole_whole _) cc0_scratch4

theorem owns_reads (c : Dev nD) {sp : Space} {T : Shape} {e : EltTy} {M : Memref sig .tc sp T e} (h : M.IsWhole) (x : T.Idx → Elt F e) :
    (owns (c : Thread nD τ) M fullShare x : sProp (Res F)) = reads c M x := by
  unfold owns reads held; rw [h.set_eq_univ]

def bodyPre (c : Dev nD) (t : Fin (cfgE S).N) : sProp (Res F) :=
  iprop((dats S 0 c).Φ t.castSucc ∗ (dats S 0 c).owesAt () t.castSucc
    ∗ (∃ d, owns (c : Thread nD τ) (st0 S t) fullShare ((dats S 0 c).before 0 t d))
    ∗ (∃ d, owns (c : Thread nD τ) (st1 S t) fullShare ((dats S 0 c).before 1 t d))
    ∗ (∃ d, owns (c : Thread nD τ) (st2 S t) fullShare ((dats S 0 c).before 2 t d))
    ∗ (∃ d, owns (c : Thread nD τ) (st3 S t) fullShare ((dats S 0 c).before 3 t d)))
def bodyPost (c : Dev nD) (t : Fin (cfgE S).N) : sProp (Res F) :=
  iprop((dats S 0 c).Φ t.succ ∗ (dats S 0 c).owesAt () t.succ
    ∗ owns (c : Thread nD τ) (st0 S t) fullShare ((dats S 0 c).after 0 t)
    ∗ owns (c : Thread nD τ) (st1 S t) fullShare ((dats S 0 c).after 1 t)
    ∗ owns (c : Thread nD τ) (st2 S t) fullShare ((dats S 0 c).after 2 t)
    ∗ owns (c : Thread nD τ) (st3 S t) fullShare ((dats S 0 c).after 3 t))

/-- The three kinds of point at once. -/
theorem point (c : Dev nD) (t : Fin (cfgE S).N) (n : ℕ) (h : n ≤ (cfgE S).N) (h' : n + 1 ≤ (cfgE S).N) (hv : t.val = n) (x : Vec F S512x8x128 .f32) (bg : Vec F S1x1x1x2048 .f32) (bd : Vec F S1x1x1x1024 .f32)
    (W : Waits sig Unit) (K : PUnit → sProp (Res F)) :
    iprop((inv S c n h ∗ owes (c : Thread nD τ) 0 W ∗ reads c (st0 S t) x ∗ reads c (st1 S t) bg ∗ reads c (st2 S t) bd
        ∗ (∃ d, held c (st3 S t) fullShare d))
      ∗ ((inv S c (n + 1) h' ∗ (∃ W', owes (c : Thread nD τ) 0 W')
        ∗ reads c (st0 S t) x ∗ reads c (st1 S t) bg ∗ reads c (st2 S t) bd
        ∗ reads c (st3 S t) (outAt c (wA m c) (wB m c) S n x bg bd)) -∗ K ⟨⟩))
     ⊢ wp frame (wpE (defs₀ (F := F)) Variants.none c none) Set.univ (bodyAt S t) K := by
  have hc := coord_val t
  have hN : t.val < 128 := t.isLt
  rcases n with _ | n
  · unfold inv
    iintro ⟨⟨⟨HI, Hg⟩, HW, HX, HBG, HBD, HO⟩, HK⟩
    iapply (first_point c (wA m c) (wB m c) S (grid0.coords t) (st0 S t) (hst0 S t) (st1 S t) (hst1 S t) (st2 S t) (hst2 S t) (st3 S t) (hst3 S t)
      x bg bd (hc.trans hv) W K)
    isplitl [HI HW HX HBG HBD HO]
    · isplitl [HI]; · iexact HI
      isplitl [HW]; · iexact HW
      isplitl [HX]; · iexact HX
      isplitl [HBG]; · iexact HBG
      isplitl [HBD]; · iexact HBD
      iexact HO
    iintro ⟨HI, HW, HX, HBG, HBD, HO⟩
    iapply HK
    isplitl [HI Hg]
    · isplitl [HI]; · iexact HI
      iexact Hg
    isplitl [HW]; · iexact HW
    isplitl [HX]; · iexact HX
    isplitl [HBG]; · iexact HBG
    isplitl [HBD]; · iexact HBD
    iexact HO
  · have hn : n < 127 := by omega
    unfold inv
    iintro ⟨⟨⟨HI, Hg⟩, HW, HX, HBG, HBD, HO⟩, HK⟩
    by_cases he : tE m (at128 (n + 1)) = tE m (at128 n)
    · iapply (keep_point c (wA m c) (wB m c) S (grid0.coords t) (st0 S t) (hst0 S t) (st1 S t) (hst1 S t) (st2 S t) (hst2 S t) (st3 S t) (hst3 S t)
        x bg bd n hn (hc.trans hv) he W K)
      isplitl [HI HW HX HBG HBD HO]
      · isplitl [HI]; · iexact HI
        isplitl [HW]; · iexact HW
        isplitl [HX]; · iexact HX
        isplitl [HBG]; · iexact HBG
        isplitl [HBD]; · iexact HBD
        iexact HO
      iintro ⟨HI, HW, HX, HBG, HBD, HO⟩
      iapply HK
      isplitl [HI Hg]
      · isplitl [HI]; · iexact HI
        iexact Hg
      isplitl [HW]; · iexact HW
      isplitl [HX]; · iexact HX
      isplitl [HBG]; · iexact HBG
      isplitl [HBD]; · iexact HBD
      iexact HO
    · iapply (turn_point c (wA m c) (wB m c) S (grid0.coords t) (st0 S t) (hst0 S t) (st1 S t) (hst1 S t) (st2 S t) (hst2 S t) (st3 S t) (hst3 S t)
        x bg bd n hn (hc.trans hv) he W K)
      isplitl [HI HW HX HBG HBD HO]
      · isplitl [HI]; · iexact HI
        isplitl [HW]; · iexact HW
        isplitl [HX]; · iexact HX
        isplitl [HBG]; · iexact HBG
        isplitl [HBD]; · iexact HBD
        iexact HO
      iintro ⟨HI, HW, HX, HBG, HBD, HO⟩
      iapply HK
      isplitl [HI Hg]
      · isplitl [HI]; · iexact HI
        iexact Hg
      isplitl [HW]; · iexact HW
      isplitl [HX]; · iexact HX
      isplitl [HBG]; · iexact HBG
      isplitl [HBD]; · iexact HBD
      iexact HO

theorem sound_body (c : Dev nD) (t : Fin (cfgE S).N) :
    bodyPre S c t ⊢ wp frame (wpE (defs₀ (F := F)) Variants.none c none) Set.univ (bodyAt S t) (fun _ => bodyPost S c t) := by
  unfold bodyPre bodyPost
  rw [Φ_start, Φ_end, after_0, after_1, after_2, after_3]
  simp only [before_0, before_1, before_2]
  rw [owns_reads c (hst3 S t) (outAt _ _ _ _ _ _ _ _)]
  simp only [owns_reads c (hst0 S t), owns_reads c (hst1 S t), owns_reads c (hst2 S t), owns_reads c (hst3 S t)]
  have e : ∀ d, (owns (c : Thread nD τ) (st3 S t) fullShare ((dats S 0 c).before 3 t d) : sProp (Res F))
      = reads c (st3 S t) ((dats S 0 c).before 3 t d) := fun d => owns_reads c (hst3 S t) _
  simp only [e]
  unfold Dat.owesAt Pipeline.owesWithin
  rw [show (dats S 0 c).owed t.castSucc = 0 from rfl, show (dats S 0 c).owed t.succ = 0 from rfl]
  iintro ⟨HI, ⟨%W, -, HW⟩, ⟨%e0, H0⟩, ⟨%e1, H1⟩, ⟨%e2, H2⟩, ⟨%e3, H3⟩⟩
  icases H3 with ⟨%f3, -, H3⟩
  iapply (point S c t t.val (Nat.le_of_lt t.isLt) t.isLt rfl (iblk S c 0 t) (iblk S c 1 t) (iblk S c 2 t) W _)
  isplitl [HI HW H0 H1 H2 H3]
  · isplitl [HI]; · iexact HI
    isplitl [HW]; · iexact HW
    isplitl [H0]; · iexact H0
    isplitl [H1]; · iexact H1
    isplitl [H2]; · iexact H2
    iexists f3; iexact H3
  iintro ⟨HI, ⟨%W', HW⟩, H0, H1, H2, H3⟩
  isplitl [HI]; · iexact HI
  isplitl [HW]
  · iexists W'; isplitr; · ipureintro; exact fun _ _ => Or.inl trivial
    iexact HW
  isplitl [H0]; · iexact H0
  isplitl [H1]; · iexact H1
  isplitl [H2]; · iexact H2
  iexact H3

theorem defs₀_row (t : Fin (cfgE S).N) :
    defs₀ (F := F) .tc (cfgE S).body ((cfgE S).bodyArgs t ((cfgE S).slots t)) = bodyAt S t := by
  unfold defs₀; rw [Defs.onTc_tc]

theorem body_obligation (c : Dev nD) : BodyObligation (dats S 0 c) (defs₀ (F := F)) Variants.none () Set.univ := fun t => by
  rw [bigSep_W0, bigSep_W0, defs₀_row]
  refine triple_restated (sound_body S c t) rfl .rfl fun _ => ?_
  unfold bodyPost
  have hb : (cfgE S).idle 3 ((cfgE S).grid.coords t) = false := busy S _
  refine sep_mono .rfl (sep_mono .rfl (sep_mono .rfl (sep_mono .rfl (sep_mono .rfl ?_))))
  dsimp only
  split
  · rename_i h
    exact absurd (h.symm.trans hb) (by decide)
  · exact .rfl

/-! ## The region's two ends -/

abbrev osem0 : Fin 4 → SemLoc sig := fun j => (![SemLoc.dma 8, SemLoc.dma 9, SemLoc.dma 10, SemLoc.dma 11] : Fin 4 → SemLoc sig) j
theorem ownSemFacts0 : Pipeline.OwnSemFacts spec0 osem0 := by decide
theorem ownSems_eq (c : Dev nD) :
    (Pipeline.ownSems0 (Ix := Unit) (Name := ℕ) (U := Pipeline.UD sig nD τ) (Lvl := ℕ) (Val := Elt F) (τ := τ) osem0 c : sProp (Res F))
      = iprop(semVal ((c : Thread nD τ), SemLoc.dma 8) 0 ∗ semVal ((c : Thread nD τ), SemLoc.dma 9) 0
          ∗ semVal ((c : Thread nD τ), SemLoc.dma 10) 0 ∗ semVal ((c : Thread nD τ), SemLoc.dma 11) 0) := by
  rw [Pipeline.ownSems0_eq_of_list c osem0 [0, 1, 2, 3] (by decide) (by decide)]; rfl

def H0 : Finset (Ref sig .tc) := {main_arg6, main_arg8}
theorem H0_sub : H0 ⊆ Pipeline.restRefsP sig pre0 spec0 := by decide
theorem hbm_eq (c : Dev nD) :
    (bigSep H0 (fun b => ((c : Thread nD τ).loc b) ↦{fullShare} V m c b) : sProp (Res F))
      = iprop(held c mA6 fullShare (wA m c) ∗ held c mA8 fullShare (wB m c)) := by
  rw [BI.bigSep_eq_bigSepL_of_eq [main_arg6, main_arg8] (by decide) (by decide)]
  show iprop(((c : Thread nD τ).loc main_arg6 ↦{fullShare} V m c main_arg6) ∗ ((c : Thread nD τ).loc main_arg8 ↦{fullShare} V m c main_arg8)) = _
  rw [V_other m c main_arg6 (by decide), V_other m c main_arg8 (by decide)]

theorem tables_eq (c : Dev nD) :
    (Pipeline.ΦT pre0 (adm S 0).1 c : sProp (Res F))
      = iprop(tab c mT0 (tE m) ∗ tab c mT1 (tN m) ∗ tab c mT2 (tL m) ∗ tab c mT3 (tB m) ∗ tab c mT4 (tX m)) := by
  show bigSep Finset.univ _ = _
  rw [BI.bigSep_univ_eq_bigSepL [0, 1, 2, 3, 4] (by decide) (by decide)]
  rfl

theorem hin (c : Dev nD) : iprop(Pipeline.ΦD osem0 spec0 H0 (V m) c ∗ Pipeline.ΦT pre0 (adm S 0).1 c) ⊢ (dats S 0 c).Φ 0 := by
  show _ ⊢ inv S c 0 (Nat.zero_le _)
  rw [tables_eq, Pipeline.ΦD_eq, scopedRest0_eq, ownSems_eq, hbm_eq]
  unfold inv startInv freeSlot
  iintro ⟨⟨⟨HS0, HS1, HS2, HS3⟩, Hg, ⟨Q8, Q9, Q10, Q11⟩, ⟨A6, A8⟩⟩, ⟨T0, T1, -, T3, T4⟩⟩
  ihave HS2 := (splitG (F := F) c) $$ HS2
  ihave HS3 := (splitD (F := F) c) $$ HS3
  icases HS2 with ⟨G0, G1⟩
  icases HS3 with ⟨D0, D1⟩
  isplitr [Hg]
  swap; · iexact Hg
  isplitl [T0]; · iexact T0
  isplitl [T1]; · iexact T1
  isplitl [T3]; · iexact T3
  isplitl [T4]; · iexact T4
  isplitl [G0 D0 Q8 Q9]
  · isplitl [G0]; · iexact G0
    isplitl [D0]; · iexact D0
    isplitl [Q8]; · iexact Q8
    iexact Q9
  isplitl [G1 D1 Q10 Q11]
  · isplitl [G1]; · iexact G1
    isplitl [D1]; · iexact D1
    isplitl [Q10]; · iexact Q10
    iexact Q11
  isplitl [A6]; · iexact A6
  isplitl [A8]; · iexact A8
  isplitl [HS0]; · iexact HS0
  iexact HS1

include S in
theorem last_ahead (c : Dev nD) (k : Fin 2) (fa : Cont (F := F) c mA6) (fd : Cont (F := F) c mA8) :
    ahead c k (tX m (at128 127)) fa fd ⊢ iprop(freeSlot c k ∗ held c mA6 fullShare fa ∗ held c mA8 fullShare fd) := by
  unfold ahead
  rw [if_neg (fun h => absurd ((cond3_iff _).1 h) (not_le.2 S.last))]

theorem inv_last (c : Dev nD) (h : 128 ≤ (cfgE S).N) : inv S c 128 h ⊢ Pipeline.ΦD osem0 spec0 H0 (V m) c := by
  rw [Pipeline.ΦD_eq, scopedRest0_eq, ownSems_eq, hbm_eq]
  unfold inv blockInv
  iintro ⟨⟨-, -, -, -, F0, AH, ⟨%s0, -, S0⟩, ⟨%s1, -, S1⟩⟩, Hg⟩
  ihave AH := (last_ahead S c _ _ _) $$ AH
  icases AH with ⟨F1, A6, A8⟩
  ihave FF := (slots_back c (tB m (at128 127)) (two S _)) $$ [F0 F1]
  · isplitl [F0]; · iexact F0
    iexact F1
  unfold freeSlot
  icases FF with ⟨⟨G0, D0, Q8, Q9⟩, ⟨G1, D1, Q10, Q11⟩⟩
  ihave HS2 := (joinG (F := F) c) $$ [G0 G1]
  · isplitl [G0]; · iexact G0
    iexact G1
  ihave HS3 := (joinD (F := F) c) $$ [D0 D1]
  · isplitl [D0]; · iexact D0
    iexact D1
  isplitl [S0 S1 HS2 HS3]
  · isplitl [S0]; · iexists s0; iexact S0
    isplitl [S1]; · iexists s1; iexact S1
    isplitl [HS2]; · iexact HS2
    iexact HS3
  isplitl [Hg]; · iexact Hg
  isplitl [Q8 Q9 Q10 Q11]
  · isplitl [Q8]; · iexact Q8
    isplitl [Q9]; · iexact Q9
    isplitl [Q10]; · iexact Q10
    iexact Q11
  isplitl [A6]; · iexact A6
  iexact A8

theorem hout (c : Dev nD) : (dats S 0 c).Φ (Fin.last (cfgE S).N) ⊢ Pipeline.ΦD osem0 spec0 H0 (V m) c :=
  inv_last S c (le_refl _)

theorem tables (c : Dev nD) (k : Fin 5) : V m c (pre0.ref k) = (adm S 0).1 k := by
  obtain rfl := dev_eq c
  fin_cases k
  · exact V_other m d0 main_arg0 (by decide)
  · exact V_other m d0 main_arg1 (by decide)
  · exact V_other m d0 main_arg2 (by decide)
  · exact V_other m d0 main_arg3 (by decide)
  · exact V_other m d0 main_arg4 (by decide)

theorem hmain : Pipeline.HMainP (Ix := Unit) (Name := ℕ) (U := Pipeline.UD sig nD τ) (Lvl := ℕ) (pcfgs (F := F)) 0 defs₀ Variants.none m main (V m) :=
  Pipeline.hmainP_prefix pcfgs 0 defs₀ Variants.none m main hostOps0 hostOps0_sub ⟨rfl, rfl⟩ main_chain

set_option backward.isDefEq.respectTransparency.types false in
theorem run_main : θ_run defs (onTc (τ := τ) (main (F := F))) (s₀ m ρ)
    (fun r => Pipeline.FramePost (Pipeline.pin (pcfgs (F := F)) (adm S)) (dats S) 0 (V m) r ∧ r.2.sem = fun _ => 0) :=
  Pipeline.θ_run_frameP_dma (Q' := _) (pcfgs (F := F)) (adm S) (dats S) (0 : Fin 1) launch0 osem0 defs₀ Variants.none ownSemFacts0 H0 H0_sub m ρ main
    (hbody := fun c => (body_obligation S c).loose) (hshare := fun c => (dats S 0 c).share_full fun _ => rfl)
    (howed := fun _ _ => rfl) (V := V m) (hmain := hmain) (hA := A_eq S) (hpf := tables S)
    (hin := hin S) (hout := hout S)

theorem stays (b : Ref sig .tc) (h : b.isScoped = false) (h' : ∀ w, (spec0 w).arr.view.ref ≠ b) :
    b ∈ Pipeline.restRefs sig (Pipeline.pin (pcfgs (F := F)) (adm S) 0).spec :=
  Pipeline.mem_restRefs_of b h h'

/-- The arguments end as they began, every counter at zero, the output as the points left it. -/
theorem run_values : θ_run defs (onTc (τ := τ) (main (F := F))) ⟨m, fun _ => 0, ρ⟩ (fun r => (∀ c : Dev nD,
      r.2.mem ((c.tc : Thread nD τ).loc main_v2) = (dats S 0 c).arrAt 3 (cfgE S).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => ⟨(h.1 c).1 3,
    ((h.1 c).2 main_arg0 (stays S main_arg0 (by decide) (by decide))).trans (V_other m c main_arg0 (by decide)),
    ((h.1 c).2 main_arg1 (stays S main_arg1 (by decide) (by decide))).trans (V_other m c main_arg1 (by decide)),
    ((h.1 c).2 main_arg2 (stays S main_arg2 (by decide) (by decide))).trans (V_other m c main_arg2 (by decide)),
    ((h.1 c).2 main_arg3 (stays S main_arg3 (by decide) (by decide))).trans (V_other m c main_arg3 (by decide)),
    ((h.1 c).2 main_arg4 (stays S main_arg4 (by decide) (by decide))).trans (V_other m c main_arg4 (by decide)),
    ((h.1 c).1 0).trans (((dats S 0 c).arrAt_in 0 rfl _).trans ((A_eq S c 0).trans (V_other m c main_arg5 (by decide)))),
    ((h.1 c).2 main_arg6 (stays S main_arg6 (by decide) (by decide))).trans (V_other m c main_arg6 (by decide)),
    ((h.1 c).2 main_arg7 (stays S main_arg7 (by decide) (by decide))).trans (V_other m c main_arg7 (by decide)),
    ((h.1 c).2 main_arg8 (stays S main_arg8 (by decide) (by decide))).trans (V_other m c main_arg8 (by decide)),
    ((h.1 c).2 main_arg9 (stays S main_arg9 (by decide) (by decide))).trans (V_other m c main_arg9 (by decide))⟩, h.2⟩) (run_main ρ S)

include S in
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => (h.1 c).2, h.2⟩) (run_values ρ S)

end Cert.Kernel2Ideal.Hand
-- ==== Proof.ExpertsBits.lean ====
module

public import proofs.«01_k».proof.Proof.ExpertsFrame

@[expose] public section

noncomputable section

namespace Cert.Kernel2.Hand

open Idealize.ShloMosaic Idealize.ShloMosaic.TcCoe
open Idealize.SL Idealize.SL.Sem

variable {F : FTy → Type} [FloatOps F]

variable [Cert.Kernel2.Facts]

theorem cfg_same : Cert.Kernel2.pcfgs (F := F) = Cert.Kernel2Ideal.pcfgs (F := F) := rfl
theorem main_same : Cert.Kernel2.main (F := F) = Cert.Kernel2Ideal.main (F := F) := rfl
theorem body_same : @Cert.Kernel2.cc0_moe_experts F _ _ = @Cert.Kernel2Ideal.cc0_moe_experts F _ _ := rfl

theorem defs₀_same : Cert.Kernel2.defs₀ (F := F) = Cert.Kernel2Ideal.defs₀ (F := F) := by
  unfold Cert.Kernel2.defs₀ Cert.Kernel2Ideal.defs₀
  refine congrArg Defs.onTc (funext fun l => ?_)
  match l with
  | 0 =>
    funext a
    obtain ⟨t, s⟩ := a
    show @Cert.Kernel2.cc0_moe_experts F _ _ _ _ _ _ _ _ _ _ _ _ _ _ _ _ _ _ _ _ _ _ _ _ _ _ _ _ _ _ _ _ _ _ = _
    rw [body_same]
    rfl

theorem defs_same : Cert.Kernel2.defs (F := F) = Cert.Kernel2Ideal.defs (F := F) := by
  unfold Cert.Kernel2.defs Cert.Kernel2Ideal.defs
  rw [defs₀_same]
  rfl

theorem carry {nD : ℕ} {τ : Topo} {sig : RefSig} {Λ : Labels} {Val : EltTy → Type} {D D' : Defs nD τ sig Val Λ}
    {M M' : Dev nD → Prog (TpuEff nD τ sig Val Λ .tc) PUnit} (hD : D = D') (hM : M = M') {s : MemSt nD τ sig Val} {Q : PUnit × MemSt nD τ sig Val → Prop}
    (h : θ_run D' (onTc (τ := τ) M') s Q) : θ_run D (onTc (τ := τ) M) s Q := by
  subst hD hM; exact h

theorem run (m : (ℓ : Loc nD τ sig) → Buf (Elt F) ℓ) (ρ : Dev nD → PrngReg) (S : Cert.Kernel2Ideal.Hand.Good (F := F) m) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  carry defs_same main_same (Cert.Kernel2Ideal.Hand.run_frame (F := F) ρ S)

end Cert.Kernel2.Hand
-- ==== Proof.ExpertsLayer.lean ====
/- The experts' layer at one row, and what the body stores at a row. -/
module

public import proofs.«01_k».proof.Proof.Gen.Kernel2Ideal
public import proofs.«01_k».proof.Proof.ExpertsFrame
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Layer

/-- The gated unit: `g` the gate and `u` the linear part, both cut at 7. -/
def act (g u : EReal) : EReal :=
  (min (Ideal.ofBits .f32 0x40E00000#32) (max (Ideal.ofBits .f32 0xC0E00000#32) u) + 1)
    * (min g (Ideal.ofBits .f32 0x40E00000#32)
      * Ideal.div 1 (1 + Ideal.exp (-(Ideal.ofBits .f32 0x3FD9DB23#32 * min g (Ideal.ofBits .f32 0x40E00000#32)))))

/-- An expert's layer of one row `x`. -/
def layer (x : Fin 1024 → EReal) (wg : Fin 1024 → Fin 2048 → EReal) (bg : Fin 2048 → EReal)
    (wd : Fin 1024 → Fin 1024 → EReal) (bd : Fin 1024 → EReal) (y : Fin 1024) : EReal :=
  (∑ k : Fin 1024, act ((∑ l, x l * wg l ⟨k.val, by omega⟩) + bg ⟨k.val, by omega⟩)
    ((∑ l, x l * wg l ⟨1024 + k.val, by omega⟩) + bg ⟨1024 + k.val, by omega⟩) * wd k y) + bd y

end Cert.Layer

namespace Cert.Kernel2Ideal.Hand

open Cert.Kernel2Ideal Cert.Kernel2Ideal.Gen Cert.Layer

set_option maxHeartbeats 1600000 in
theorem pay8_at (x : Vec Ideal S128x8x128 .f32) (wg : Vec Ideal S1024x2048 .bf16) (bg : Vec Ideal S1x1x1x2048 .f32)
    (wd : Vec Ideal S1024x1024 .bf16) (bd : Vec Ideal S1x1x1x1024 .f32) (r : Fin 128) (a : Fin 8) (b : Fin 128) :
    k0_pay8 (F := Ideal) x wg bg wd bd (ix3 r a b)
      = layer (fun l => x (ix3 r ⟨l.val / 128, by omega⟩ ⟨l.val % 128, by omega⟩)) (fun l k => wg (ix2 l k))
          (fun k => bg (ix4 0 0 0 k)) (fun k y => wd (ix2 k y)) (fun y => bd (ix4 0 0 0 y))
          ⟨a.val * 128 + b.val, by omega⟩ := by
  pointwise [k0_pay8]
  rfl

set_option maxHeartbeats 1600000 in
theorem pay9_at (x : Vec Ideal S256x8x128 .f32) (wg : Vec Ideal S1024x2048 .bf16) (bg : Vec Ideal S1x1x1x2048 .f32)
    (wd : Vec Ideal S1024x1024 .bf16) (bd : Vec Ideal S1x1x1x1024 .f32) (r : Fin 256) (a : Fin 8) (b : Fin 128) :
    k0_pay9 (F := Ideal) x wg bg wd bd (ix3 r a b)
      = layer (fun l => x (ix3 r ⟨l.val / 128, by omega⟩ ⟨l.val % 128, by omega⟩)) (fun l k => wg (ix2 l k))
          (fun k => bg (ix4 0 0 0 k)) (fun k y => wd (ix2 k y)) (fun y => bd (ix4 0 0 0 y))
          ⟨a.val * 128 + b.val, by omega⟩ := by
  pointwise [k0_pay9]
  rfl

set_option maxHeartbeats 1600000 in
theorem pay10_at (x : Vec Ideal S384x8x128 .f32) (wg : Vec Ideal S1024x2048 .bf16) (bg : Vec Ideal S1x1x1x2048 .f32)
    (wd : Vec Ideal S1024x1024 .bf16) (bd : Vec Ideal S1x1x1x1024 .f32) (r : Fin 384) (a : Fin 8) (b : Fin 128) :
    k0_pay10 (F := Ideal) x wg bg wd bd (ix3 r a b)
      = layer (fun l => x (ix3 r ⟨l.val / 128, by omega⟩ ⟨l.val % 128, by omega⟩)) (fun l k => wg (ix2 l k))
          (fun k => bg (ix4 0 0 0 k)) (fun k y => wd (ix2 k y)) (fun y => bd (ix4 0 0 0 y))
          ⟨a.val * 128 + b.val, by omega⟩ := by
  pointwise [k0_pay10]
  rfl

set_option maxHeartbeats 1600000 in
theorem pay5_at (x : Vec Ideal S512x8x128 .f32) (wg : Vec Ideal S1024x2048 .bf16) (bg : Vec Ideal S1x1x1x2048 .f32)
    (wd : Vec Ideal S1024x1024 .bf16) (bd : Vec Ideal S1x1x1x1024 .f32) (r : Fin 512) (a : Fin 8) (b : Fin 128) :
    k0_pay5 (F := Ideal) x wg bg wd bd (ix3 r a b)
      = layer (fun l => x (ix3 r ⟨l.val / 128, by omega⟩ ⟨l.val % 128, by omega⟩)) (fun l k => wg (ix2 l k))
          (fun k => bg (ix4 0 0 0 k)) (fun k y => wd (ix2 k y)) (fun y => bd (ix4 0 0 0 y))
          ⟨a.val * 128 + b.val, by omega⟩ := by
  pointwise [k0_pay5]
  rfl

/-- A load of the upper rows of a block. -/
theorem ldT_at {n : ℕ} (hn : n ≤ 512) (x : Vec Ideal S512x8x128 .f32) (h) (r : Fin n) (a : Fin 8) (b : Fin 128) :
    View.ld x (Rect.unit (s := S512x8x128) ![0, 0, 0] ![n, 8, 128] h) (ix3 r a b) = x (ix3 ⟨r.val, by omega⟩ a b) := by
  refine congrArg x (funext fun a => Fin.ext ?_)
  match a with
  | ⟨0, _⟩ => exact (congrArg (0 + ·) (Nat.one_mul _)).trans (Nat.zero_add _)
  | ⟨1, _⟩ => exact (congrArg (0 + ·) (Nat.one_mul _)).trans (Nat.zero_add _)
  | ⟨2, _⟩ => exact (congrArg (0 + ·) (Nat.one_mul _)).trans (Nat.zero_add _)

/-- A load of all of a matrix. -/
theorem ldM_at {a b : ℕ} {φ : EltTy} (x : Vec Ideal ⟨2, ![a, b]⟩ φ) (h) (r : Fin a) (y : Fin b) :
    View.ld x (Rect.unit (s := ⟨2, ![a, b]⟩) ![0, 0] ![a, b] h) (ix2 r y) = x (ix2 r y) := by
  refine congrArg x (funext fun a => Fin.ext ?_)
  match a with
  | ⟨0, _⟩ => exact (congrArg (0 + ·) (Nat.one_mul _)).trans (Nat.zero_add _)
  | ⟨1, _⟩ => exact (congrArg (0 + ·) (Nat.one_mul _)).trans (Nat.zero_add _)

/-- A load of all of a bias. -/
theorem ldB_at {b : ℕ} {φ : EltTy} (x : Vec Ideal ⟨4, ![1, 1, 1, b]⟩ φ) (h) (y : Fin b) :
    View.ld x (Rect.unit (s := ⟨4, ![1, 1, 1, b]⟩) ![0, 0, 0, 0] ![1, 1, 1, b] h) (ix4 0 0 0 y) = x (ix4 0 0 0 y) := by
  refine congrArg x (funext fun a => Fin.ext ?_)
  match a with
  | ⟨0, _⟩ => rfl
  | ⟨1, _⟩ => rfl
  | ⟨2, _⟩ => rfl
  | ⟨3, _⟩ => exact (congrArg (0 + ·) (Nat.one_mul _)).trans (Nat.zero_add _)

/-- A block's entry at a row in use. -/
def rowAt (x : Vec Ideal S512x8x128 .f32) (wg : Vec Ideal S1024x2048 .bf16) (bg : Vec Ideal S1x1x1x2048 .f32)
    (wd : Vec Ideal S1024x1024 .bf16) (bd : Vec Ideal S1x1x1x1024 .f32) (r : Fin 512) (a : Fin 8) (b : Fin 128) : EReal :=
  layer (fun l => x (ix3 r ⟨l.val / 128, by omega⟩ ⟨l.val % 128, by omega⟩)) (fun l k => wg (ix2 l k))
    (fun k => bg (ix4 0 0 0 k)) (fun k y => wd (ix2 k y)) (fun y => bd (ix4 0 0 0 y)) ⟨a.val * 128 + b.val, by omega⟩

section
variable (x : Vec Ideal S512x8x128 .f32) (wg : Vec Ideal S1024x2048 .bf16) (bg : Vec Ideal S1x1x1x2048 .f32)
  (wd : Vec Ideal S1024x1024 .bf16) (bd : Vec Ideal S1x1x1x1024 .f32)

/-- The layer of loaded rows is the block's. -/
theorem loaded {n : ℕ} (hn : n ≤ 512) (h h₁ h₂ h₃ h₄) (r : Fin n) (a : Fin 8) (b : Fin 128) :
    layer (fun l => View.ld x (Rect.unit (s := S512x8x128) ![0, 0, 0] ![n, 8, 128] h)
          (ix3 r ⟨l.val / 128, by omega⟩ ⟨l.val % 128, by omega⟩))
        (fun l k => View.ld wg (Rect.unit (s := S1024x2048) ![0, 0] ![1024, 2048] h₁) (ix2 l k))
        (fun k => View.ld bg (Rect.unit (s := S1x1x1x2048) ![0, 0, 0, 0] ![1, 1, 1, 2048] h₂) (ix4 0 0 0 k))
        (fun k y => View.ld wd (Rect.unit (s := S1024x1024) ![0, 0] ![1024, 1024] h₃) (ix2 k y))
        (fun y => View.ld bd (Rect.unit (s := S1x1x1x1024) ![0, 0, 0, 0] ![1, 1, 1, 1024] h₄) (ix4 0 0 0 y))
        ⟨a.val * 128 + b.val, by omega⟩
      = rowAt x wg bg wd bd ⟨r.val, by omega⟩ a b := by
  unfold rowAt
  congr 1
  · exact funext fun l => ldT_at hn x h r _ _
  · exact funext fun l => funext fun k => ldM_at wg h₁ l k
  · exact funext fun k => ldB_at bg h₂ k
  · exact funext fun l => funext fun k => ldM_at wd h₃ l k
  · exact funext fun k => ldB_at bd h₄ k

theorem zero_word : zeroWord (F := Ideal) = (0 : EReal) := Ideal.ofBits_zero_f32

theorem row_eq (r : Fin 512) (a : Fin 8) (b : Fin 128) (y : S512x8x128.Idx) (h0 : (y 0 : ℕ) = r) (h1 : (y 1 : ℕ) = a)
    (h2 : (y 2 : ℕ) = b) : rowAt x wg bg wd bd r a b = rowAt x wg bg wd bd (y 0) (y 1) (y 2) := by
  rw [show r = y 0 from Fin.ext h0.symm, show a = y 1 from Fin.ext h1.symm, show b = y 2 from Fin.ext h2.symm]

/-- A block of `n` quarters at any entry. -/
theorem outB_at (n : BitVec 32) (hn : n = 0#32 ∨ n = 1#32 ∨ n = 2#32 ∨ n = 3#32 ∨ n = 4#32) (y : S512x8x128.Idx) :
    outB (F := Ideal) n x wg bg wd bd y
      = if (y 0).val < 128 * n.toNat then rowAt x wg bg wd bd (y 0) (y 1) (y 2) else 0 := by
  have hy := (y 0).isLt
  rcases hn with rfl | rfl | rfl | rfl | rfl
  · rw [outB_0, if_neg (by simp)]
    canon_tiles z h
    case piece0 => exact Ideal.ofBits_zero_f32
  · rw [outB_1, show 128 * (1#32).toNat = 128 from rfl]
    canon_tiles z h using cover1 _ _ y
    case piece0 => rw [if_neg (by omega)]; exact zero_word
    case piece1 =>
      rw [if_pos (by omega)]
      exact (congrArg _ (show z = ix3 (z 0) (z 1) (z 2) from by idx_vars z; rfl)).trans ((pay8_at _ _ _ _ _ _ _ _).trans
        ((loaded x wg bg wd bd (by omega) _ _ _ _ _ _ _ _).trans (row_eq x wg bg wd bd _ _ _ y h0 h1 h2)))
  · rw [outB_2, show 128 * (2#32).toNat = 256 from rfl]
    canon_tiles z h using cover2 _ _ y
    case piece0 => rw [if_neg (by omega)]; exact zero_word
    case piece1 =>
      rw [if_pos (by omega)]
      exact (congrArg _ (show z = ix3 (z 0) (z 1) (z 2) from by idx_vars z; rfl)).trans ((pay9_at _ _ _ _ _ _ _ _).trans
        ((loaded x wg bg wd bd (by omega) _ _ _ _ _ _ _ _).trans (row_eq x wg bg wd bd _ _ _ y h0 h1 h2)))
  · rw [outB_3, show 128 * (3#32).toNat = 384 from rfl]
    canon_tiles z h using cover3 _ _ y
    case piece0 => rw [if_neg (by omega)]; exact zero_word
    case piece1 =>
      rw [if_pos (by omega)]
      exact (congrArg _ (show z = ix3 (z 0) (z 1) (z 2) from by idx_vars z; rfl)).trans ((pay10_at _ _ _ _ _ _ _ _).trans
        ((loaded x wg bg wd bd (by omega) _ _ _ _ _ _ _ _).trans (row_eq x wg bg wd bd _ _ _ y h0 h1 h2)))
  · rw [outB_4, show 128 * (4#32).toNat = 512 from rfl]
    canon_tiles z h using cover4 _ y
    case piece0 =>
      rw [if_pos (show (y 0 : ℕ) < 512 from hy)]
      exact (congrArg _ (show z = ix3 (z 0) (z 1) (z 2) from by idx_vars z; rfl)).trans ((pay5_at _ _ _ _ _ _ _ _).trans
        ((loaded x wg bg wd bd (by omega) _ _ _ _ _ _ _ _).trans (row_eq x wg bg wd bd _ _ _ y h0 h1 h2)))
end

end Cert.Kernel2Ideal.Hand

end
-- ==== Proof.ExpertsEntry.lean ====
/- One entry of what the experts compute, from the arrays that the call is given. -/
module

public import proofs.«01_k».proof.Proof.ExpertsLayer

@[expose] public section

noncomputable section

open Idealize.ShloMosaic

namespace Cert.Layer

/-- Entry `a`, `b` of row `r` of block `t`: the block's expert applied to the row if the row is in use, else zero. -/
def entry (e : Shape.Idx ⟨1, ![128]⟩ → BitVec 32) (he : ∀ t, (e t).toNat < 32) (n : Shape.Idx ⟨1, ![128]⟩ → BitVec 32)
    (x : Shape.Idx ⟨3, ![65536, 8, 128]⟩ → EReal) (wg : Shape.Idx ⟨4, ![4, 32, 1024, 2048]⟩ → EReal)
    (bg : Shape.Idx ⟨3, ![4, 32, 2048]⟩ → EReal) (wd : Shape.Idx ⟨4, ![4, 32, 1024, 1024]⟩ → EReal)
    (bd : Shape.Idx ⟨3, ![4, 32, 1024]⟩ → EReal) (t : Fin 128) (r : Fin 512) (a : Fin 8) (b : Fin 128) : EReal :=
  if r.val < 128 * (n (ix1 t)).toNat then
    layer (fun l => x (ix3 ⟨t.val * 512 + r.val, by omega⟩ ⟨l.val / 128, by omega⟩ ⟨l.val % 128, by omega⟩))
      (fun l k => wg (ix4 0 ⟨(e (ix1 t)).toNat, he _⟩ l k)) (fun k => bg (ix3 0 ⟨(e (ix1 t)).toNat, he _⟩ k))
      (fun l k => wd (ix4 0 ⟨(e (ix1 t)).toNat, he _⟩ l k)) (fun k => bd (ix3 0 ⟨(e (ix1 t)).toNat, he _⟩ k))
      ⟨a.val * 128 + b.val, by omega⟩
  else 0

end Cert.Layer

end
-- ==== Proof.ExpertsValue.lean ====
/- The array that the experts leave: every block is what its grid point computed. -/
module

public import proofs.«01_k».proof.Proof.ExpertsEntry
public import Idealize.ShloMosaic.Lib.Pipeline.Covers

@[expose] public section

set_option maxRecDepth 16384

noncomputable section

open Idealize.ShloMosaic Idealize.ShloMosaic.TcCoe Idealize.SL.Sem

namespace Cert.Kernel2Ideal.Hand

open Cert.Kernel2Ideal Cert.Kernel2Ideal.Gen Cert.Layer Cert.Schedule

variable {m : (ℓ : Loc nD τ sig) → Buf (Elt Ideal) ℓ} (S : Good m)

theorem idx0 (t : Fin (cfgE S).N) : ((cfgE S).win 0).index t = ![min t.val (tL m (ix1 0)).toNat, 0, 0] :=
  (tr0_at (grid0.coords t) S.l_lt).trans (congrArg (fun x => ![min x (tL m (ix1 0)).toNat, 0, 0]) (coord_val t))
theorem idx1 (t : Fin (cfgE S).N) : ((cfgE S).win 1).index t = ![0, (tE m (at128 t.val)).toNat, 0, 0] :=
  tr2_at (grid0.coords t) (coord_val t) t.isLt
theorem idx2 (t : Fin (cfgE S).N) : ((cfgE S).win 2).index t = ![0, (tE m (at128 t.val)).toNat, 0, 0] :=
  tr4_at (grid0.coords t) (coord_val t) t.isLt
theorem idx3 : ∀ t : Fin grid0.N, cc0_transform_5 (grid0.coords t) = ![t.val, 0, 0] := by decide +kernel

theorem V_v0 (c : Dev nD) : V m c main_v0 = shapeCast S4x32x1x2048 (m ((c : Thread nD τ).loc main_arg7)) shapeCasts_S4x32x2048_S4x32x1x2048 := by
  unfold V hostOps0
  after_results
  rfl
theorem V_v1 (c : Dev nD) : V m c main_v1 = shapeCast S4x32x1x1024 (m ((c : Thread nD τ).loc main_arg9)) shapeCasts_S4x32x1024_S4x32x1x1024 := by
  unfold V hostOps0
  after_results
  rfl

theorem x_at (c : Dev nD) (t : Fin (cfgE S).N) (hu : t.val ≤ (tL m (ix1 0)).toNat) (r : Fin 512) (a : Fin 8) (b : Fin 128) :
    iblk S c 0 t (ix3 r a b) = m ((c : Thread nD τ).loc main_arg5) (ix3 ⟨t.val * 512 + r.val, by have : t.val < 128 := t.isLt; omega⟩ a b) := by
  have e : V m c main_arg5 = m ((c : Thread nD τ).loc main_arg5) := V_other m c main_arg5 (by decide)
  have i := idx0 S t
  rw [Nat.min_eq_left hu] at i
  refine (congrFun e _).trans (congrArg (m ((c : Thread nD τ).loc main_arg5)) ?_)
  funext d
  refine Fin.ext ?_
  match d with
  | ⟨0, _⟩ => exact congrArg₂ (· + ·) (congrArg (· * 512) (congrFun i (0 : Fin 3))) (Nat.one_mul _)
  | ⟨1, _⟩ => exact (congrArg₂ (· + ·) (congrArg (· * 8) (congrFun i (1 : Fin 3))) (Nat.one_mul _)).trans (Nat.zero_add _)
  | ⟨2, _⟩ => exact (congrArg₂ (· + ·) (congrArg (· * 128) (congrFun i (2 : Fin 3))) (Nat.one_mul _)).trans (Nat.zero_add _)

theorem bg_at (c : Dev nD) (t : Fin (cfgE S).N) (k : Fin 2048) :
    iblk S c 1 t (ix4 0 0 0 k) = m ((c : Thread nD τ).loc main_arg7) (ix3 0 ⟨(tE m (at128 t.val)).toNat, S.e_lt _⟩ k) := by
  have i := idx1 S t
  have j : iblk S c 1 t (ix4 0 0 0 k) = V m c main_v0 (ix4 0 ⟨(tE m (at128 t.val)).toNat, S.e_lt _⟩ 0 k) := by
    refine congrArg (V m c main_v0) ?_
    funext d
    refine Fin.ext ?_
    match d with
    | ⟨0, _⟩ => exact congrArg₂ (· + ·) (congrArg (· * 1) (congrFun i (0 : Fin 4))) (Nat.one_mul _)
    | ⟨1, _⟩ => exact (congrArg₂ (· + ·) (congrArg (· * 1) (congrFun i (1 : Fin 4))) (Nat.one_mul _)).trans (Nat.mul_one _)
    | ⟨2, _⟩ => exact congrArg₂ (· + ·) (congrArg (· * 1) (congrFun i (2 : Fin 4))) (Nat.one_mul _)
    | ⟨3, _⟩ => exact (congrArg₂ (· + ·) (congrArg (· * 2048) (congrFun i (3 : Fin 4))) (Nat.one_mul _)).trans (Nat.zero_add _)
  rw [j, V_v0]
  pointwise
theorem bd_at (c : Dev nD) (t : Fin (cfgE S).N) (k : Fin 1024) :
    iblk S c 2 t (ix4 0 0 0 k) = m ((c : Thread nD τ).loc main_arg9) (ix3 0 ⟨(tE m (at128 t.val)).toNat, S.e_lt _⟩ k) := by
  have i := idx2 S t
  have j : iblk S c 2 t (ix4 0 0 0 k) = V m c main_v1 (ix4 0 ⟨(tE m (at128 t.val)).toNat, S.e_lt _⟩ 0 k) := by
    refine congrArg (V m c main_v1) ?_
    funext d
    refine Fin.ext ?_
    match d with
    | ⟨0, _⟩ => exact congrArg₂ (· + ·) (congrArg (· * 1) (congrFun i (0 : Fin 4))) (Nat.one_mul _)
    | ⟨1, _⟩ => exact (congrArg₂ (· + ·) (congrArg (· * 1) (congrFun i (1 : Fin 4))) (Nat.one_mul _)).trans (Nat.mul_one _)
    | ⟨2, _⟩ => exact congrArg₂ (· + ·) (congrArg (· * 1) (congrFun i (2 : Fin 4))) (Nat.one_mul _)
    | ⟨3, _⟩ => exact (congrArg₂ (· + ·) (congrArg (· * 1024) (congrFun i (3 : Fin 4))) (Nat.one_mul _)).trans (Nat.zero_add _)
  rw [j, V_v1]
  pointwise

theorem wG_at (c : Dev nD) (w : BitVec 32) (h : w.toNat < 32) (l : Fin 1024) (k : Fin 2048) :
    wG c (wA m c) w h (ix2 l k) = m ((c : Thread nD τ).loc main_arg6) (ix4 0 ⟨w.toNat, h⟩ l k) := by
  have e : tileG c (wA m c) w h = shapeCast S1024x2048 (fun i : S1x1x1024x2048.Idx => m ((c : Thread nD τ).loc main_arg6)
      ((Rect.unit (s := S4x32x1024x2048) ![0, w.toNat, 0, 0] S1x1x1024x2048.size (inbSG w h)).emb i)) (by decide) := rfl
  unfold wG
  rw [e]
  pointwise [roundG]
  refine congrArg (m ((c : Thread nD τ).loc main_arg6)) ?_
  funext d
  refine Fin.ext ?_
  match d with
  | ⟨0, _⟩ => rfl
  | ⟨1, _⟩ => exact (congrArg (w.toNat + ·) (Nat.one_mul _)).trans (Nat.add_zero _)
  | ⟨2, _⟩ => exact (congrArg (0 + ·) (Nat.one_mul _)).trans (Nat.zero_add _)
  | ⟨3, _⟩ => exact (congrArg (0 + ·) (Nat.one_mul _)).trans (Nat.zero_add _)
theorem wD_at (c : Dev nD) (w : BitVec 32) (h : w.toNat < 32) (l : Fin 1024) (k : Fin 1024) :
    wD c (wB m c) w h (ix2 l k) = m ((c : Thread nD τ).loc main_arg8) (ix4 0 ⟨w.toNat, h⟩ l k) := by
  have e : tileD c (wB m c) w h = shapeCast S1024x1024 (fun i : S1x1x1024x1024.Idx => m ((c : Thread nD τ).loc main_arg8)
      ((Rect.unit (s := S4x32x1024x1024) ![0, w.toNat, 0, 0] S1x1x1024x1024.size (inbSD w h)).emb i)) (by decide) := rfl
  unfold wD
  rw [e]
  pointwise [roundD]
  refine congrArg (m ((c : Thread nD τ).loc main_arg8)) ?_
  funext d
  refine Fin.ext ?_
  match d with
  | ⟨0, _⟩ => rfl
  | ⟨1, _⟩ => exact (congrArg (w.toNat + ·) (Nat.one_mul _)).trans (Nat.add_zero _)
  | ⟨2, _⟩ => exact (congrArg (0 + ·) (Nat.one_mul _)).trans (Nat.zero_add _)
  | ⟨3, _⟩ => exact (congrArg (0 + ·) (Nat.one_mul _)).trans (Nat.zero_add _)

/-- Entry `r`, `a`, `b` of the block that point `t` leaves. -/
theorem block_at (c : Dev nD) (t : Fin (cfgE S).N) (y : S512x8x128.Idx) :
    outAt c (wA m c) (wB m c) S t.val (iblk S c 0 t) (iblk S c 1 t) (iblk S c 2 t) y
      = entry (tE m) S.e_lt (tN m) (m ((c : Thread nD τ).loc main_arg5)) (m ((c : Thread nD τ).loc main_arg6))
          (m ((c : Thread nD τ).loc main_arg7)) (m ((c : Thread nD τ).loc main_arg8)) (m ((c : Thread nD τ).loc main_arg9))
          ⟨t.val, t.isLt⟩ (y 0) (y 1) (y 2) := by
  have ht : t.val < 128 := t.isLt
  have e : at128 t.val = ix1 (⟨t.val, t.isLt⟩ : Fin 128) := congrArg (fun v : Fin 128 => (ix1 v : S128.Idx)) (Fin.ext (Nat.mod_eq_of_lt ht))
  unfold outAt
  rw [outB_at _ _ _ _ _ _ (five S _) y]
  refine Eq.trans ?_ (congrArg (fun q : S128.Idx => if (y 0).val < 128 * (tN m q).toNat then
    layer (fun l => m ((c : Thread nD τ).loc main_arg5) (ix3 ⟨t.val * 512 + (y 0).val, by have : (y 0).val < 512 := (y 0).isLt; omega⟩
        ⟨l.val / 128, by omega⟩ ⟨l.val % 128, by omega⟩))
      (fun l k => m ((c : Thread nD τ).loc main_arg6) (ix4 0 ⟨(tE m q).toNat, S.e_lt q⟩ l k))
      (fun k => m ((c : Thread nD τ).loc main_arg7) (ix3 0 ⟨(tE m q).toNat, S.e_lt q⟩ k))
      (fun l k => m ((c : Thread nD τ).loc main_arg8) (ix4 0 ⟨(tE m q).toNat, S.e_lt q⟩ l k))
      (fun k => m ((c : Thread nD τ).loc main_arg9) (ix3 0 ⟨(tE m q).toNat, S.e_lt q⟩ k))
      ⟨(y 1).val * 128 + (y 2).val, by have : (y 1).val < 8 := (y 1).isLt; have : (y 2).val < 128 := (y 2).isLt; omega⟩
    else 0) e)
  show _ = if _ then _ else _
  by_cases hr : (y 0).val < 128 * (tN m (at128 t.val)).toNat
  · have hu : t.val ≤ (tL m (ix1 0)).toNat := by
      have := S.used (at128 t.val) (by omega)
      rw [e] at this
      exact this
    rw [if_pos hr, if_pos hr]
    unfold rowAt
    congr 1
    · exact funext fun l => x_at S c t hu _ _ _
    · exact funext fun l => funext fun k => wG_at c _ _ l k
    · exact funext fun k => bg_at S c t k
    · exact funext fun l => funext fun k => wD_at c _ _ l k
    · exact funext fun k => bd_at S c t k
  · rw [if_neg hr, if_neg hr]

/-- The array that the kernel leaves. -/
def result (c : Dev nD) : Vec Ideal S65536x8x128 .f32 := fun i =>
  entry (tE m) S.e_lt (tN m) (m ((c : Thread nD τ).loc main_arg5)) (m ((c : Thread nD τ).loc main_arg6))
    (m ((c : Thread nD τ).loc main_arg7)) (m ((c : Thread nD τ).loc main_arg8)) (m ((c : Thread nD τ).loc main_arg9))
    ⟨(i 0).val / 512, by have : (i 0).val < 65536 := (i 0).isLt; omega⟩ ⟨(i 0).val % 512, by omega⟩ (i 1) (i 2)

theorem covers : ((cfgE S).win 3).Covers :=
  ((cfgE S).win 3).covers_of_index_surj rfl (fun a => by
      match a with
      | ⟨0, _⟩ => exact Nat.succ_pos 511
      | ⟨1, _⟩ => exact Nat.succ_pos 7
      | ⟨2, _⟩ => exact Nat.succ_pos 127) fun β =>
    have h0 : (β (0 : Fin 3)).val < 128 := lt_of_lt_of_eq (β (0 : Fin 3)).isLt (by decide : (65536 + 512 - 1) / 512 = 128)
    have h1 : (β (1 : Fin 3)).val < 1 := lt_of_lt_of_eq (β (1 : Fin 3)).isLt (by decide : (8 + 8 - 1) / 8 = 1)
    have h2 : (β (2 : Fin 3)).val < 1 := lt_of_lt_of_eq (β (2 : Fin 3)).isLt (by decide : (128 + 128 - 1) / 128 = 1)
    ⟨⟨(β (0 : Fin 3)).val, h0⟩, fun a => by
      have i := idx3 ⟨(β (0 : Fin 3)).val, h0⟩
      match a with
      | ⟨0, _⟩ => exact congrFun i (0 : Fin 3)
      | ⟨1, _⟩ => exact (congrFun i (1 : Fin 3)).trans (Nat.lt_one_iff.mp h1).symm
      | ⟨2, _⟩ => exact (congrFun i (2 : Fin 3)).trans (Nat.lt_one_iff.mp h2).symm⟩

theorem emb3 (t : Fin (cfgE S).N) (y : S512x8x128.Idx) :
    (((cfgE S).win 3).blk t).view.emb y
      = (ix3 (⟨t.val * 512 + (y 0).val, by have : t.val < 128 := t.isLt; have : (y 0).val < 512 := (y 0).isLt; omega⟩ : Fin 65536) (y 1) (y 2) : S65536x8x128.Idx) := by
  have i := idx3 t
  funext d
  refine Fin.ext ?_
  match d with
  | ⟨0, _⟩ => exact congrArg₂ (· + ·) (congrArg (· * 512) (congrFun i (0 : Fin 3))) (Nat.one_mul _)
  | ⟨1, _⟩ => exact (congrArg₂ (· + ·) (congrArg (· * 8) (congrFun i (1 : Fin 3))) (Nat.one_mul _)).trans (Nat.zero_add _)
  | ⟨2, _⟩ => exact (congrArg₂ (· + ·) (congrArg (· * 128) (congrFun i (2 : Fin 3))) (Nat.one_mul _)).trans (Nat.zero_add _)

theorem result_at (c : Dev nD) (t : Fin 128) (r : Fin 512) (a : Fin 8) (b : Fin 128) :
    result S c (ix3 ⟨t.val * 512 + r.val, by omega⟩ a b)
      = entry (tE m) S.e_lt (tN m) (m ((c : Thread nD τ).loc main_arg5)) (m ((c : Thread nD τ).loc main_arg6))
          (m ((c : Thread nD τ).loc main_arg7)) (m ((c : Thread nD τ).loc main_arg8)) (m ((c : Thread nD τ).loc main_arg9)) t r a b := by
  have h0 : (t.val * 512 + r.val) / 512 = t.val := by omega
  have h1 : (t.val * 512 + r.val) % 512 = r.val := by omega
  exact congrArg₂ (fun t r => entry (tE m) S.e_lt (tN m) (m ((c : Thread nD τ).loc main_arg5)) (m ((c : Thread nD τ).loc main_arg6))
          (m ((c : Thread nD τ).loc main_arg7)) (m ((c : Thread nD τ).loc main_arg8)) (m ((c : Thread nD τ).loc main_arg9)) t r a b)
    (Fin.ext h0) (Fin.ext h1)

theorem final (c : Dev nD) : (dats S 0 c).arrAt 3 (cfgE S).N = result S c := by
  refine (dats S 0 c).arrAt_eq_of_covers 3 _ (covers S) fun t _ y => ?_
  refine Eq.trans ?_ (congrArg (result S c) (emb3 S t y)).symm
  rw [after_3]
  exact (block_at S c t y).trans (result_at S c ⟨t.val, t.isLt⟩ _ _ _).symm

end Cert.Kernel2Ideal.Hand

end
-- ==== Proof.ExpertsGather.lean ====
/- Taking whole rows or whole matrices of an array at a list of indices, read at an index. -/
module

public import Idealize.ShloMosaic.Lib.Pointwise
public import Idealize.ShloMosaic.Lib.ValueIdxCore

@[expose] public section

noncomputable section

open Idealize.ShloMosaic

namespace Cert.Take

variable {α : Type}

/-- Row `idx[r, 0]` of an `[N, A]` array, for every `r`. -/
abbrev rowDims (N R A : ℕ) (wf : GatherDims.WF ⟨2, ![N, A]⟩ ⟨2, ![R, 1]⟩ ⟨2, ![R, A]⟩ [1] [0] [] [0] [] 1 ![1, A]) :
    GatherDims ⟨2, ![N, A]⟩ ⟨2, ![R, 1]⟩ ⟨2, ![R, A]⟩ where
  offsetDims := [1]
  collapsedSliceDims := [0]
  operandBatchingDims := []
  startIndicesBatchingDims := []
  startIndexMap := [0]
  indexVectorDim := 1
  sliceSizes := ![1, A]
  wf := wf

/-- Matrix `idx[r, 0]` of an `[N, A, B]` array, for every `r`. -/
abbrev matDims (N R A B : ℕ)
    (wf : GatherDims.WF ⟨3, ![N, A, B]⟩ ⟨2, ![R, 1]⟩ ⟨3, ![R, A, B]⟩ [1, 2] [0] [] [0] [] 1 ![1, A, B]) :
    GatherDims ⟨3, ![N, A, B]⟩ ⟨2, ![R, 1]⟩ ⟨3, ![R, A, B]⟩ where
  offsetDims := [1, 2]
  collapsedSliceDims := [0]
  operandBatchingDims := []
  startIndicesBatchingDims := []
  startIndexMap := [0]
  indexVectorDim := 1
  sliceSizes := ![1, A, B]
  wf := wf

theorem row_at {N R A w : ℕ} (hN : 0 < N) (wf) (x : (⟨2, ![N, A]⟩ : Shape).Idx → α) (idx : IVec ⟨2, ![R, 1]⟩ w)
    (r : Fin R) (a : Fin A) (n : Fin N) (hn : (idx (ix2 r 0)).toInt.toNat = n.val) :
    Host.gather (rowDims N R A wf) x idx (ix2 r a) = x (ix2 n a) := by
  unfold Host.gather
  refine congrArg x (funext fun b => Fin.ext ?_)
  show (rowDims N R A wf).start (ix2 r a) idx b + (rowDims N R A wf).batchCoord (ix2 r a) b
      + (rowDims N R A wf).offCoord (ix2 r a) b = _
  rw [GatherDims.batchCoord_eq_zero _ _ _ List.not_mem_nil]
  have h01 : b = 0 ∨ b = 1 := by
    match b with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ (rowDims N R A wf).startIndexMap from List.mem_singleton.mpr rfl)]
    have hsi : (rowDims N R A wf).siIdx (ix2 r a) ⟨List.idxOf (0 : Fin 2) (rowDims N R A wf).startIndexMap,
        List.idxOf_lt_length_iff.2 (List.mem_singleton.mpr rfl)⟩ = ix2 r 0 := by
      funext b; refine Fin.ext ?_
      match b with
      | ⟨0, _⟩ => rfl
      | ⟨1, _⟩ => rfl
    rw [hsi, hn]
    have := n.isLt
    show min n.val (N - 1) + 0 + 0 = n.val
    omega
  · unfold GatherDims.start
    rw [dif_neg (show ¬ (1 : Fin 2) ∈ (rowDims N R A wf).startIndexMap from (by decide : ¬ (1 : Fin 2) ∈ [(0 : Fin 2)]))]
    show 0 + 0 + (rowDims N R A wf).offCoord (ix2 r a) 1 = a.val
    rw [Nat.zero_add]
    rfl

theorem mat_at {N R A B w : ℕ} (hN : 0 < N) (wf) (x : (⟨3, ![N, A, B]⟩ : Shape).Idx → α) (idx : IVec ⟨2, ![R, 1]⟩ w)
    (r : Fin R) (a : Fin A) (b : Fin B) (n : Fin N) (hn : (idx (ix2 r 0)).toInt.toNat = n.val) :
    Host.gather (matDims N R A B wf) x idx (ix3 r a b) = x (ix3 n a b) := by
  unfold Host.gather
  refine congrArg x (funext fun e => Fin.ext ?_)
  show (matDims N R A B wf).start (ix3 r a b) idx e + (matDims N R A B wf).batchCoord (ix3 r a b) e
      + (matDims N R A B wf).offCoord (ix3 r a b) e = _
  rw [GatherDims.batchCoord_eq_zero _ _ _ List.not_mem_nil]
  have h012 : e = 0 ∨ e = 1 ∨ e = 2 := by
    match e with
    | ⟨0, _⟩ => exact Or.inl rfl
    | ⟨1, _⟩ => exact Or.inr (Or.inl rfl)
    | ⟨2, _⟩ => exact Or.inr (Or.inr rfl)
  rcases h012 with rfl | rfl | rfl
  · rw [GatherDims.offCoord_eq_zero _ _ _ (fun h => ((GatherDims.mem_sKept _ _).mp h).1 (List.mem_singleton.mpr rfl))]
    unfold GatherDims.start
    rw [dif_pos (show (0 : Fin 3) ∈ (matDims N R A B wf).startIndexMap from List.mem_singleton.mpr rfl)]
    have hsi : (matDims N R A B wf).siIdx (ix3 r a b) ⟨List.idxOf (0 : Fin 3) (matDims N R A B wf).startIndexMap,
        List.idxOf_lt_length_iff.2 (List.mem_singleton.mpr rfl)⟩ = ix2 r 0 := by
      funext b; refine Fin.ext ?_
      match b with
      | ⟨0, _⟩ => rfl
      | ⟨1, _⟩ => rfl
    rw [hsi, hn]
    have := n.isLt
    show min n.val (N - 1) + 0 + 0 = n.val
    omega
  · unfold GatherDims.start
    rw [dif_neg (show ¬ (1 : Fin 3) ∈ (matDims N R A B wf).startIndexMap from (by decide : ¬ (1 : Fin 3) ∈ [(0 : Fin 3)]))]
    show 0 + 0 + (matDims N R A B wf).offCoord (ix3 r a b) 1 = a.val
    rw [Nat.zero_add]
    rfl
  · unfold GatherDims.start
    rw [dif_neg (show ¬ (2 : Fin 3) ∈ (matDims N R A B wf).startIndexMap from (by decide : ¬ (2 : Fin 3) ∈ [(0 : Fin 3)]))]
    show 0 + 0 + (matDims N R A B wf).offCoord (ix3 r a b) 2 = b.val
    rw [Nat.zero_add]
    rfl

end Cert.Take

end
-- ==== Proof.ExpertsReference.lean ====
/- What the reference of the experts computes at an index. -/
module

public import proofs.«01_k».proof.Proof.Gen.Reference2Ideal.Run
public import proofs.«01_k».proof.Proof.ExpertsGather
public import proofs.«01_k».proof.Proof.ExpertsLayer

@[expose] public section

set_option maxRecDepth 16384

noncomputable section

open Idealize.ShloMosaic Idealize.ShloMosaic.TcCoe Idealize.SL.Sem

namespace Cert.Reference2Ideal.Exp

open Cert.Reference2Ideal Cert.Reference2Ideal.Gen Cert.Layer

/-! ## The reference's steps, one definition each -/

/-- The block's expert, negative numbers counted from the end. -/
def experts (e : IVec S128 32) : IVec S128x1 32 :=
  broadcastInDim S128x1 ![0] bcast_S128_S128x1_0
    (select (cmpi .slt e (broadcastInDim S128 ![] bcast_S_S128 (constantI S_ 32 0#32)))
      (addi e (broadcastInDim S128 ![] bcast_S_S128 (constantI S_ 32 32#32))) e)

def upW (w : FVec Ideal S4x32x1024x2048 .f32) (i : IVec S128x1 32) : FVec Ideal S128x1024x2048 .f32 :=
  Host.gather gather_S32x1024x2048_S128x1_S128x1024x2048_12_0_n_n_0_1_110242048
    (shapeCast _ (extractStridedSlice S1x32x1024x2048 ![0, 0, 0, 0] w slices_S4x32x1024x2048_S1x32x1024x2048_0_0_0_0)
      shapeCasts_S1x32x1024x2048_S32x1024x2048) i
def upB (w : FVec Ideal S4x32x2048 .f32) (i : IVec S128x1 32) : FVec Ideal S128x2048 .f32 :=
  Host.gather gather_S32x2048_S128x1_S128x2048_1_0_n_n_0_1_12048
    (shapeCast _ (extractStridedSlice S1x32x2048 ![0, 0, 0] w slices_S4x32x2048_S1x32x2048_0_0_0)
      shapeCasts_S1x32x2048_S32x2048) i
def downW (w : FVec Ideal S4x32x1024x1024 .f32) (i : IVec S128x1 32) : FVec Ideal S128x1024x1024 .f32 :=
  Host.gather gather_S32x1024x1024_S128x1_S128x1024x1024_12_0_n_n_0_1_110241024
    (shapeCast _ (extractStridedSlice S1x32x1024x1024 ![0, 0, 0, 0] w slices_S4x32x1024x1024_S1x32x1024x1024_0_0_0_0)
      shapeCasts_S1x32x1024x1024_S32x1024x1024) i
def downB (w : FVec Ideal S4x32x1024 .f32) (i : IVec S128x1 32) : FVec Ideal S128x1024 .f32 :=
  Host.gather gather_S32x1024_S128x1_S128x1024_1_0_n_n_0_1_11024
    (shapeCast _ (extractStridedSlice S1x32x1024 ![0, 0, 0] w slices_S4x32x1024_S1x32x1024_0_0_0)
      shapeCasts_S1x32x1024_S32x1024) i

/-- Gate and linear part together, before the cut. -/
def up (x : FVec Ideal S65536x8x128 .f32) (w : FVec Ideal S128x1024x2048 .f32) (b : FVec Ideal S128x2048 .f32) :
    FVec Ideal S128x512x2048 .f32 :=
  addf (Host.dotGeneral dot_S128x512x1024_S128x1024x2048_S128x512x2048_2_1_1_2_0_0 none
      (shapeCast _ x shapeCasts_S65536x8x128_S128x512x1024) w)
    (broadcastInDim S128x512x2048 ![0, 1, 2] bcast_S128x1x2048_S128x512x2048_0_1_2
      (broadcastInDim S128x1x2048 ![0, 2] bcast_S128x2048_S128x1x2048_0_2 b))

/-- The gate, cut. -/
def gate (h : FVec Ideal S128x512x2048 .f32) : FVec Ideal S128x512x1024 .f32 :=
  minimumf (extractStridedSlice S128x512x1024 ![0, 0, 0] h slices_S128x512x2048_S128x512x1024_0_0_0)
    (broadcastInDim S128x512x1024 ![] bcast_S_S128x512x1024 (constant S_ .f32 0x40E00000#32))

def acts (h : FVec Ideal S128x512x2048 .f32) : FVec Ideal S128x512x1024 .f32 :=
  mulf (addf (minimumf (broadcastInDim S128x512x1024 ![] bcast_S_S128x512x1024 (id (constant S_ .f32 0x40E00000#32)))
      (maximumf (broadcastInDim S128x512x1024 ![] bcast_S_S128x512x1024 (id (constant S_ .f32 0xC0E00000#32)))
        (extractStridedSlice S128x512x1024 ![0, 0, 1024] h slices_S128x512x2048_S128x512x1024_0_0_1024)))
      (broadcastInDim S128x512x1024 ![] bcast_S_S128x512x1024 (constant S_ .f32 0x3F800000#32)))
    (mulf (gate h) (Host.divf (broadcastInDim S128x512x1024 ![] bcast_S_S128x512x1024 (constant S_ .f32 0x3F800000#32))
      (addf (broadcastInDim S128x512x1024 ![] bcast_S_S128x512x1024 (constant S_ .f32 0x3F800000#32))
        (Host.exp (Host.negf (mulf (broadcastInDim S128x512x1024 ![] bcast_S_S128x512x1024 (constant S_ .f32 0x3FD9DB23#32))
          (gate h)))))))

def down (g : FVec Ideal S128x512x1024 .f32) (w : FVec Ideal S128x1024x1024 .f32) (b : FVec Ideal S128x1024 .f32) :
    FVec Ideal S128x512x1024 .f32 :=
  addf (Host.dotGeneral dot_S128x512x1024_S128x1024x1024_S128x512x1024_2_1_1_2_0_0 none g w)
    (broadcastInDim S128x512x1024 ![0, 1, 2] bcast_S128x1x1024_S128x512x1024_0_1_2
      (broadcastInDim S128x1x1024 ![0, 2] bcast_S128x1024_S128x1x1024_0_2 b))

/-- Which rows of which block are in use. -/
def used (n : IVec S128 32) : IVec S128x512 1 :=
  cmpi .slt (broadcastInDim S128x512 ![0, 1] bcast_S1x512_S128x512_0_1
      (broadcastInDim S1x512 ![1] bcast_S512_S1x512_1 (iotaInDim S512 32 0)))
    (broadcastInDim S128x512 ![0, 1] bcast_S128x1_S128x512_0_1
      (muli (broadcastInDim S128x1 ![] bcast_S_S128x1 (constantI S_ 32 128#32))
        (broadcastInDim S128x1 ![0] bcast_S128_S128x1_0 n)))

def kept (u : IVec S128x512 1) (o : FVec Ideal S128x512x1024 .f32) : FVec Ideal S65536x8x128 .f32 :=
  shapeCast _ (select (broadcastInDim S128x512x1024 ![0, 1, 2] bcast_S128x512x1_S128x512x1024_0_1_2
      (broadcastInDim S128x512x1 ![0, 1] bcast_S128x512_S128x512x1_0_1 u)) o
    (broadcastInDim S128x512x1024 ![] bcast_S_S128x512x1024 (id (constant S_ .f32 0x00000000#32))))
    shapeCasts_S128x512x1024_S65536x8x128

/-- The reference is its steps in turn. -/
theorem res_eq (m : (ℓ : Loc nD τ sig) → Buf (Elt Ideal) ℓ) (c : Dev nD) :
    Value.res_out0 m c = kept (used (m ((c.tc : Thread nD τ).loc main_arg1)))
      (down (acts (up (m ((c.tc : Thread nD τ).loc main_arg5))
          (upW (m ((c.tc : Thread nD τ).loc main_arg6)) (experts (m ((c.tc : Thread nD τ).loc main_arg0))))
          (upB (m ((c.tc : Thread nD τ).loc main_arg7)) (experts (m ((c.tc : Thread nD τ).loc main_arg0))))))
        (downW (m ((c.tc : Thread nD τ).loc main_arg8)) (experts (m ((c.tc : Thread nD τ).loc main_arg0))))
        (downB (m ((c.tc : Thread nD τ).loc main_arg9)) (experts (m ((c.tc : Thread nD τ).loc main_arg0))))) := rfl

/-! ## Each step at an index -/

theorem nonneg {v : BitVec 32} (h : v.toNat < 32) : IntOp.cmpi .slt v 0#32 = 0#1 := by
  have e : v.toInt = v.toNat := BitVec.toInt_eq_toNat_of_lt (by omega)
  have : ¬ v.toInt < (0#32 : BitVec 32).toInt := by
    rw [e]; simp
  show BitVec.ofBool (v.slt 0#32) = 0#1
  rw [BitVec.slt_eq_decide, decide_eq_false this]
  rfl

theorem within : ∀ (q : Fin 5) (r : Fin 512), IntOp.cmpi .slt (BitVec.ofNat 32 r.val) (IntOp.muli 128#32 (BitVec.ofNat 32 q.val))
    = if r.val < 128 * q.val then 1#1 else 0#1 := by decide +kernel

theorem experts_at (e : IVec S128 32) (t : Fin 128) (h : (e (ix1 t)).toNat < 32) :
    experts e (ix2 t 0) = e (ix1 t) := by
  pointwise [experts]
  rw [nonneg h]
  rfl

theorem upW_at (w : FVec Ideal S4x32x1024x2048 .f32) (i : IVec S128x1 32) (t : Fin 128) (n : Fin 32)
    (h : (i (ix2 t 0)).toInt.toNat = n.val) (l : Fin 1024) (k : Fin 2048) :
    upW w i (ix3 t l k) = w (ix4 0 n l k) := by
  unfold upW
  refine (Cert.Take.mat_at (by omega) _ _ i t l k n h).trans ?_
  pointwise
theorem upB_at (w : FVec Ideal S4x32x2048 .f32) (i : IVec S128x1 32) (t : Fin 128) (n : Fin 32)
    (h : (i (ix2 t 0)).toInt.toNat = n.val) (k : Fin 2048) :
    upB w i (ix2 t k) = w (ix3 0 n k) := by
  unfold upB
  refine (Cert.Take.row_at (by omega) _ _ i t k n h).trans ?_
  pointwise
theorem downW_at (w : FVec Ideal S4x32x1024x1024 .f32) (i : IVec S128x1 32) (t : Fin 128) (n : Fin 32)
    (h : (i (ix2 t 0)).toInt.toNat = n.val) (l : Fin 1024) (k : Fin 1024) :
    downW w i (ix3 t l k) = w (ix4 0 n l k) := by
  unfold downW
  refine (Cert.Take.mat_at (by omega) _ _ i t l k n h).trans ?_
  pointwise
theorem downB_at (w : FVec Ideal S4x32x1024 .f32) (i : IVec S128x1 32) (t : Fin 128) (n : Fin 32)
    (h : (i (ix2 t 0)).toInt.toNat = n.val) (k : Fin 1024) :
    downB w i (ix2 t k) = w (ix3 0 n k) := by
  unfold downB
  refine (Cert.Take.row_at (by omega) _ _ i t k n h).trans ?_
  pointwise

theorem up_at (x : FVec Ideal S65536x8x128 .f32) (w : FVec Ideal S128x1024x2048 .f32) (b : FVec Ideal S128x2048 .f32)
    (t : Fin 128) (r : Fin 512) (k : Fin 2048) :
    up x w b (ix3 t r k) = (∑ l : Fin 1024, x (ix3 ⟨t.val * 512 + r.val, by omega⟩ ⟨l.val / 128, by omega⟩ ⟨l.val % 128, by omega⟩)
      * w (ix3 t l k)) + b (ix2 t k) := by
  pointwise [up]

theorem acts_at (h : FVec Ideal S128x512x2048 .f32) (t : Fin 128) (r : Fin 512) (k : Fin 1024) :
    acts h (ix3 t r k) = act (h (ix3 t r ⟨k.val, by omega⟩)) (h (ix3 t r ⟨1024 + k.val, by omega⟩)) := by
  pointwise [acts, gate]
  rfl

theorem down_at (g : FVec Ideal S128x512x1024 .f32) (w : FVec Ideal S128x1024x1024 .f32) (b : FVec Ideal S128x1024 .f32)
    (t : Fin 128) (r : Fin 512) (k : Fin 1024) :
    down g w b (ix3 t r k) = (∑ l : Fin 1024, g (ix3 t r l) * w (ix3 t l k)) + b (ix2 t k) := by
  pointwise [down]

theorem used_at (n : IVec S128 32) (t : Fin 128) (r : Fin 512) (h : (n (ix1 t)).toNat ≤ 4) :
    used n (ix2 t r) = if r.val < 128 * (n (ix1 t)).toNat then 1#1 else 0#1 := by
  pointwise [used]
  have w := within ⟨(n (ix1 t)).toNat, by omega⟩ r
  rw [show BitVec.ofNat 32 (n (ix1 t)).toNat = n (ix1 t) from BitVec.ofNat_toNat .. |>.trans (BitVec.setWidth_eq _)] at w
  exact w

theorem kept_at (u : IVec S128x512 1) (o : FVec Ideal S128x512x1024 .f32) (R : Fin 65536) (a : Fin 8) (b : Fin 128) :
    kept u o (ix3 R a b) = if u (ix2 ⟨R.val / 512, by omega⟩ ⟨R.val % 512, by omega⟩) = 1#1
      then o (ix3 ⟨R.val / 512, by omega⟩ ⟨R.val % 512, by omega⟩ ⟨a.val * 128 + b.val, by omega⟩) else 0 := by
  pointwise [kept]
  have z : (id (constant S_ .f32 0x00000000#32) : FVec Ideal S_ .f32) ix0 = 0 := Ideal.ofBits_zero_f32
  rw [z]
  rfl

end Cert.Reference2Ideal.Exp

end
-- ==== Proof.ExpertsEqual.lean ====
/- What the reference of the experts computes, entry by entry. -/
module

public import proofs.«01_k».proof.Proof.ExpertsReference
public import proofs.«01_k».proof.Proof.ExpertsEntry

@[expose] public section

set_option maxRecDepth 16384

noncomputable section

open Idealize.ShloMosaic Idealize.ShloMosaic.TcCoe Idealize.SL.Sem

namespace Cert.Reference2Ideal.Exp

open Cert.Reference2Ideal Cert.Layer

theorem picked {v : BitVec 32} (h : v.toNat < 32) : v.toInt.toNat = v.toNat := by
  rw [BitVec.toInt_eq_toNat_of_lt (by omega)]; rfl

variable (e n : IVec S128 32) (x : FVec Ideal S65536x8x128 .f32) (wg : FVec Ideal S4x32x1024x2048 .f32) (bg : FVec Ideal S4x32x2048 .f32)
  (wd : FVec Ideal S4x32x1024x1024 .f32) (bd : FVec Ideal S4x32x1024 .f32)

theorem expert (t : Fin 128) (h : (e (ix1 t)).toNat < 32) :
    (experts e (ix2 t 0)).toInt.toNat = (⟨(e (ix1 t)).toNat, h⟩ : Fin 32).val := by
  rw [experts_at e t h]; exact picked h

theorem res_at (he : ∀ t, (e t).toNat < 32) (hn : ∀ t, (n t).toNat ≤ 4) (R : Fin 65536) (a : Fin 8) (b : Fin 128) :
    kept (used n) (down (acts (up x (upW wg (experts e)) (upB bg (experts e)))) (downW wd (experts e)) (downB bd (experts e)))
        (ix3 R a b)
      = entry e he n x wg bg wd bd ⟨R.val / 512, by omega⟩ ⟨R.val % 512, by omega⟩ a b := by
  rw [kept_at]
  have u := used_at n ⟨R.val / 512, by omega⟩ ⟨R.val % 512, by omega⟩ (hn _)
  unfold entry
  generalize (⟨R.val / 512, by omega⟩ : Fin 128) = t at u ⊢
  generalize (⟨R.val % 512, by omega⟩ : Fin 512) = r at u ⊢
  have p := expert e t (he _)
  by_cases h : r.val < 128 * (n (ix1 t)).toNat
  · rw [if_pos h] at u
    rw [u, if_pos rfl, if_pos h, down_at, downB_at bd _ t _ p]
    unfold layer
    refine congrArg (· + _) (Finset.sum_congr rfl fun k _ => ?_)
    rw [acts_at, up_at, up_at, upB_at bg _ t _ p, upB_at bg _ t _ p, downW_at wd _ t _ p]
    simp only [upW_at wg _ t _ p]
  · rw [if_neg h] at u
    rw [u, if_neg (by decide), if_neg h]

end Cert.Reference2Ideal.Exp

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Equation
public import proofs.«01_k».proof.Proof.Gen.Kernel2
public import proofs.«01_k».proof.Proof.Gen.Reference2Ideal
public import proofs.«01_k».proof.Proof.Gen.Reference2Ideal.Run
public import proofs.«01_k».proof.Proof.ExpertsBits
public import proofs.«01_k».proof.Proof.ExpertsValue
public import proofs.«01_k».proof.Proof.ExpertsEqual
public import Idealize.ShloMosaic.Lib.Quiescent
public import Idealize.ShloMosaic.Adequacy
public import Idealize.ShloMosaic.Init

@[expose] public section

set_option maxRecDepth 16384

noncomputable section

open Idealize.ShloMosaic Idealize.SL.Sem

namespace Cert.Proof

/-- The facts the precondition states. -/
theorem finite_facts : Cert.Pre_finite.Facts :=
  ⟨by decide, by decide, by decide, by decide, by decide, by decide, by decide⟩

attribute [local instance] finite_facts

theorem kernel_frame : quiescent_Kernel := fun m ρ _ => Cert.Kernel.Gen.frame m ρ

theorem ideal_frame : quiescent_KernelIdeal := fun m ρ _ => Cert.KernelIdeal.Gen.frame m ρ

theorem reference_frame : quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

open Cert.KernelIdeal.Att Cert.ReferenceIdeal.Att in
theorem equal_results : algebraic_KernelIdeal_ReferenceIdeal_pre_finite := by
  intro m ρ m' ρ' hpre hag
  refine ⟨fun c => result m c,
    (θ_run _ _ _).mono (fun r h c => ⟨(h c).1.trans (final m c), (h c).2⟩)
      (Cert.KernelIdeal.Value.run_blocks (F := Ideal) m ρ),
    (θ_run _ _ _).mono (fun r h c => ⟨(h c).1.trans ?_, (h c).2⟩)
      (Cert.ReferenceIdeal.Value.run (F := Ideal) m' ρ')⟩
  obtain ⟨hq, hk, hc⟩ := Cert.Pre_finite.reals _ _ _ _ _ (hpre c)
  obtain ⟨e0, e1, e2, e3, e4⟩ := hag c
  refine (Cert.ReferenceIdeal.Att.res_eq m' c).trans ?_
  rw [e0, e1, e2, e3, e4]
  funext i
  obtain ⟨r, y, rfl⟩ : ∃ (r : Fin 4096) (y : Fin 512), i = ix2 r y := ⟨i 0, i 1, eq_ix2 i⟩
  exact Cert.Att.equal _ _ _ _ _ hq hk hc r y

/-! ## The experts -/

theorem schedule_facts : Cert.Pre_schedule.Facts :=
  ⟨by decide, by decide, by decide, by decide, by decide, by decide, by decide, by decide, by decide, by decide⟩

attribute [local instance] schedule_facts

theorem kernel2_frame : quiescent_Kernel2 := fun m ρ hpre =>
  Cert.Kernel2.Hand.run m ρ (Cert.Schedule.sched_of _ _ _ _ _ _ _ _ _ _ (hpre Cert.Kernel2Ideal.Hand.d0))

/-- The precondition promises the schedule of the tables. -/
theorem good (m : (ℓ : Loc Cert.Kernel2Ideal.nD Cert.Kernel2Ideal.τ Cert.Kernel2Ideal.sig) → Buf (Elt Ideal) ℓ)
    (h : Pre_Kernel2Ideal m) : Cert.Kernel2Ideal.Hand.Good m :=
  Cert.Schedule.sched_of _ _ _ _ _ _ _ _ _ _ (h Cert.Kernel2Ideal.Hand.d0)

theorem ideal2_frame : quiescent_Kernel2Ideal := fun m ρ hpre => Cert.Kernel2Ideal.Hand.run_frame ρ (good m hpre)

theorem reference2_frame : quiescent_Reference2Ideal := fun m ρ _ =>
  (θ_run Cert.Reference2Ideal.defs _ _).mono
    (fun r h => ⟨fun c => (h c).2, Idealize.ShloMosaic.sem_eq_zero_of_no_sems (by decide) r.2⟩)
    (Cert.Reference2Ideal.Value.run (F := Ideal) m ρ)

open Cert.Kernel2Ideal.Hand in
theorem equal_experts : algebraic_Kernel2Ideal_Reference2Ideal := by
  intro m ρ m' ρ' hpre hag
  have S := good m hpre
  refine ⟨fun c => result S c,
    (θ_run _ _ _).mono (fun r h c => ⟨(h.1 c).1.trans (final S c), (h.1 c).2⟩) (run_values ρ S),
    (θ_run _ _ _).mono (fun r h c => ⟨(h c).1.trans ?_, (h c).2⟩)
      (Cert.Reference2Ideal.Value.run (F := Ideal) m' ρ')⟩
  obtain rfl := dev_eq c
  obtain ⟨e0, e1, e2, e3, e4, e5, e6, e7, e8, e9⟩ := hag d0
  refine (Cert.Reference2Ideal.Exp.res_eq m' d0).trans ?_
  rw [e0, e1, e5, e6, e7, e8, e9]
  funext i
  obtain ⟨r, a, b, rfl⟩ : ∃ (r : Fin 65536) (a : Fin 8) (b : Fin 128), i = ix3 r a b := ⟨i 0, i 1, i 2, eq_ix3 i⟩
  exact Cert.Reference2Ideal.Exp.res_at _ _ _ _ _ _ _ S.e_lt S.n_le r a b

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, finite_facts, schedule_facts,
    kernel_frame, ideal_frame, fun m ρ _ => ideal_frame m ρ trivial,
    reference_frame, fun m ρ _ => reference_frame m ρ trivial,
    kernel2_frame, ideal2_frame, reference2_frame, fun m ρ _ => reference2_frame m ρ trivial,
    IdealRules.named_const.statement Cert.KernelIdeal.κ "scale" .f32 0x3DD105EC#32 (((Real.sqrt 96)⁻¹ : ℝ) : EReal) rfl,
    equal_results, trivial, equal_experts⟩

end Cert.Proof

end
